-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_tables [hPre_unit_tables : Cert.Pre_unit_tables.Facts] (m : (ℓ : Loc Cert.KernelIdeal.nD Cert.KernelIdeal.τ Cert.KernelIdeal.sig) → Buf (Elt Ideal) ℓ) : Prop :=
  ∀ c : Dev Cert.KernelIdeal.nD,
    (Cert.Pre_unit_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_unit_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_unit_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_unit_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_unit_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_unit_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_unit_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_unit_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_tables [hPre_unit_tables : Cert.Pre_unit_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_unit_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_unit_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_unit_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_unit_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_unit_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_unit_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_unit_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_unit_tables [hKernelIdeal : Cert.KernelIdeal.Facts] [hPre_unit_tables : Cert.Pre_unit_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_unit_tables [hReferenceIdeal : Cert.ReferenceIdeal.Facts] [hPre_unit_tables : Cert.Pre_unit_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_unit_tables [hKernelIdeal : Cert.KernelIdeal.Facts] [hReferenceIdeal : Cert.ReferenceIdeal.Facts] [hPre_unit_tables : Cert.Pre_unit_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_unit_tables : Cert.Pre_unit_tables.Facts),
    quiescent_Kernel (hKernel := hKernel)
    ∧ quiescent_KernelIdeal (hKernelIdeal := hKernelIdeal)
    ∧ quiescent_KernelIdeal_pre_unit_tables (hKernelIdeal := hKernelIdeal) (hPre_unit_tables := hPre_unit_tables)
    ∧ quiescent_ReferenceIdeal (hReferenceIdeal := hReferenceIdeal)
    ∧ quiescent_ReferenceIdeal_pre_unit_tables (hReferenceIdeal := hReferenceIdeal) (hPre_unit_tables := hPre_unit_tables)
    ∧ preserves_Kernel_KernelIdeal
    ∧ algebraic_KernelIdeal_ReferenceIdeal_pre_unit_tables (hKernelIdeal := hKernelIdeal) (hReferenceIdeal := hReferenceIdeal) (hPre_unit_tables := hPre_unit_tables)
-- ==== Pre_unit_tables.lean ====
abbrev S1024x12 : Shape := ⟨2, ![1024, 12]⟩
abbrev S1024x12x4 : Shape := ⟨3, ![1024, 12, 4]⟩
abbrev S1025x1024 : Shape := ⟨2, ![1025, 1024]⟩
abbrev S1024x128 : Shape := ⟨2, ![1024, 128]⟩
abbrev S128x128 : Shape := ⟨2, ![128, 128]⟩
abbrev S1024x512 : Shape := ⟨2, ![1024, 512]⟩
abbrev S513x512 : Shape := ⟨2, ![513, 512]⟩
abbrev S_ : Shape := ⟨0, ![]⟩

class Facts : Prop where
  bcast_S_S1024x12 : S_.BroadcastsInDim S1024x12 (![] : Fin 0 → Fin S1024x12.rank)
  bcast_S_S1024x12x4 : S_.BroadcastsInDim S1024x12x4 (![] : Fin 0 → Fin S1024x12x4.rank)
  bcast_S_S1025x1024 : S_.BroadcastsInDim S1025x1024 (![] : Fin 0 → Fin S1025x1024.rank)
  bcast_S_S128x128 : S_.BroadcastsInDim S128x128 (![] : Fin 0 → Fin S128x128.rank)
  bcast_S_S513x512 : S_.BroadcastsInDim S513x512 (![] : Fin 0 → Fin S513x512.rank)

variable [Facts]

def fn_part2 {F : FTy → Type} [FloatOps F] (main_arg8 : FVec F S128x128 .f32) (main_arg10 : FVec F S513x512 .f32) (main_v4 : IVec S1024x12 1) (main_v6 : IVec S1024x12 1) (main_v11 : IVec S1024x12 1) (main_v16 : IVec S1024x12x4 1) (main_v25 : IVec S1025x1024 1) (main_v34 : IVec S128x128 1) : IVec S1024x12 1 × IVec S1024x12 1 × IVec S1024x12 1 × IVec S1024x12x4 1 × IVec S1025x1024 1 × IVec S128x128 1 × IVec S128x128 1 × IVec S513x512 1 :=
  let main_v35 : IVec S128x128 32 := iotaInDim S128x128 32 0
  let main_v36 : IVec S128x128 32 := iotaInDim S128x128 32 1
  let main_c_11 : IVec S_ 32 := constantI S_ 32 0#32
  let main_v37 : IVec S128x128 32 := broadcastInDim S128x128 ![] bcast_S_S128x128 main_c_11
  let main_v38 : IVec S128x128 32 := addi main_v36 main_v37
  let main_v39 : IVec S128x128 1 := cmpi .eq main_v35 main_v38
  let main_cst_12 : FVec F S_ .f32 := constant S_ .f32 0x3F800000#32
  let main_v40 : FVec F S128x128 .f32 := broadcastInDim S128x128 ![] bcast_S_S128x128 main_cst_12
  let main_cst_13 : FVec F S_ .f32 := constant S_ .f32 0x00000000#32
  let main_v41 : FVec F S128x128 .f32 := broadcastInDim S128x128 ![] bcast_S_S128x128 main_cst_13
  let main_v42 : FVec F S128x128 .f32 := select main_v39 main_v40 main_v41
  let main_v43 : IVec S128x128 1 := cmpf .oeq main_arg8 main_v42
  let main_v44 : IVec S513x512 32 := iotaInDim S513x512 32 0
  let main_v45 : IVec S513x512 32 := iotaInDim S513x512 32 1
  let main_c_14 : IVec S_ 32 := constantI S_ 32 1#32
  let main_v46 : IVec S513x512 32 := broadcastInDim S513x512 ![] bcast_S_S513x512 main_c_14
  let main_v47 : IVec S513x512 32 := addi main_v45 main_v46
  let main_v48 : IVec S513x512 1 := cmpi .eq main_v44 main_v47
  let main_cst_15 : FVec F S_ .f32 := constant S_ .f32 0x3F800000#32
  let main_v49 : FVec F S513x512 .f32 := broadcastInDim S513x512 ![] bcast_S_S513x512 main_cst_15
  let main_cst_16 : FVec F S_ .f32 := constant S_ .f32 0x00000000#32
  let main_v50 : FVec F S513x512 .f32 := broadcastInDim S513x512 ![] bcast_S_S513x512 main_cst_16
  let main_v51 : FVec F S513x512 .f32 := select main_v48 main_v49 main_v50
  let main_v52 : IVec S513x512 1 := cmpf .oeq main_arg10 main_v51
  (main_v4, main_v6, main_v11, main_v16, main_v25, main_v34, main_v43, main_v52)

def fn_part1 {F : FTy → Type} [FloatOps F] (main_arg4 : FVec F S1025x1024 .f32) (main_arg6 : FVec F S128x128 .f32) (main_arg8 : FVec F S128x128 .f32) (main_arg10 : FVec F S513x512 .f32) (main_v4 : IVec S1024x12 1) (main_v6 : IVec S1024x12 1) (main_v11 : IVec S1024x12 1) (main_v16 : IVec S1024x12x4 1) : IVec S1024x12 1 × IVec S1024x12 1 × IVec S1024x12 1 × IVec S1024x12x4 1 × IVec S1025x1024 1 × IVec S128x128 1 × IVec S128x128 1 × IVec S513x512 1 :=
  let main_v17 : IVec S1025x1024 32 := iotaInDim S1025x1024 32 0
  let main_v18 : IVec S1025x1024 32 := iotaInDim S1025x1024 32 1
  let main_c_6 : IVec S_ 32 := constantI S_ 32 1#32
  let main_v19 : IVec S1025x1024 32 := broadcastInDim S1025x1024 ![] bcast_S_S1025x1024 main_c_6
  let main_v20 : IVec S1025x1024 32 := addi main_v18 main_v19
  let main_v21 : IVec S1025x1024 1 := cmpi .eq main_v17 main_v20
  let main_cst : FVec F S_ .f32 := constant S_ .f32 0x3F800000#32
  let main_v22 : FVec F S1025x1024 .f32 := broadcastInDim S1025x1024 ![] bcast_S_S1025x1024 main_cst
  let main_cst_7 : FVec F S_ .f32 := constant S_ .f32 0x00000000#32
  let main_v23 : FVec F S1025x1024 .f32 := broadcastInDim S1025x1024 ![] bcast_S_S1025x1024 main_cst_7
  let main_v24 : FVec F S1025x1024 .f32 := select main_v21 main_v22 main_v23
  let main_v25 : IVec S1025x1024 1 := cmpf .oeq main_arg4 main_v24
  let main_v26 : IVec S128x128 32 := iotaInDim S128x128 32 0
  let main_v27 : IVec S128x128 32 := iotaInDim S128x128 32 1
  let main_c_8 : IVec S_ 32 := constantI S_ 32 0#32
  let main_v28 : IVec S128x128 32 := broadcastInDim S128x128 ![] bcast_S_S128x128 main_c_8
  let main_v29 : IVec S128x128 32 := addi main_v27 main_v28
  let main_v30 : IVec S128x128 1 := cmpi .eq main_v26 main_v29
  let main_cst_9 : FVec F S_ .f32 := constant S_ .f32 0x3F800000#32
  let main_v31 : FVec F S128x128 .f32 := broadcastInDim S128x128 ![] bcast_S_S128x128 main_cst_9
  let main_cst_10 : FVec F S_ .f32 := constant S_ .f32 0x00000000#32
  let main_v32 : FVec F S128x128 .f32 := broadcastInDim S128x128 ![] bcast_S_S128x128 main_cst_10
  let main_v33 : FVec F S128x128 .f32 := select main_v30 main_v31 main_v32
  let main_v34 : IVec S128x128 1 := cmpf .oeq main_arg6 main_v33
  fn_part2 (F := F) main_arg8 main_arg10 main_v4 main_v6 main_v11 main_v16 main_v25 main_v34

def fn {F : FTy → Type} [FloatOps F] (main_arg0 : IVec S1024x12 32) (main_arg1 : IVec S1024x12 32) (main_arg2 : IVec S1024x12 32) (main_arg3 : IVec S1024x12x4 32) (main_arg4 : FVec F S1025x1024 .f32) (main_arg5 : FVec F S1024x128 .f32) (main_arg6 : FVec F S128x128 .f32) (main_arg7 : FVec F S1024x128 .f32) (main_arg8 : FVec F S128x128 .f32) (main_arg9 : FVec F S1024x512 .f32) (main_arg10 : FVec F S513x512 .f32) : IVec S1024x12 1 × IVec S1024x12 1 × IVec S1024x12 1 × IVec S1024x12x4 1 × IVec S1025x1024 1 × IVec S128x128 1 × IVec S128x128 1 × IVec S513x512 1 :=
  let main_c : IVec S_ 32 := constantI S_ 32 0#32
  let main_v0 : IVec S1024x12 32 := broadcastInDim S1024x12 ![] bcast_S_S1024x12 main_c
  let main_v1 : IVec S1024x12 1 := cmpi .sge main_arg0 main_v0
  let main_c_0 : IVec S_ 32 := constantI S_ 32 1024#32
  let main_v2 : IVec S1024x12 32 := broadcastInDim S1024x12 ![] bcast_S_S1024x12 main_c_0
  let main_v3 : IVec S1024x12 1 := cmpi .sle main_arg0 main_v2
  let main_v4 : IVec S1024x12 1 := andi main_v1 main_v3
  let main_c_1 : IVec S_ 32 := constantI S_ 32 128#32
  let main_v5 : IVec S1024x12 32 := broadcastInDim S1024x12 ![] bcast_S_S1024x12 main_c_1
  let main_v6 : IVec S1024x12 1 := cmpi .sle main_arg1 main_v5
  let main_c_2 : IVec S_ 32 := constantI S_ 32 0#32
  let main_v7 : IVec S1024x12 32 := broadcastInDim S1024x12 ![] bcast_S_S1024x12 main_c_2
  let main_v8 : IVec S1024x12 1 := cmpi .sge main_arg2 main_v7
  let main_c_3 : IVec S_ 32 := constantI S_ 32 128#32
  let main_v9 : IVec S1024x12 32 := broadcastInDim S1024x12 ![] bcast_S_S1024x12 main_c_3
  let main_v10 : IVec S1024x12 1 := cmpi .sle main_arg2 main_v9
  let main_v11 : IVec S1024x12 1 := andi main_v8 main_v10
  let main_c_4 : IVec S_ 32 := constantI S_ 32 0#32
  let main_v12 : IVec S1024x12x4 32 := broadcastInDim S1024x12x4 ![] bcast_S_S1024x12x4 main_c_4
  let main_v13 : IVec S1024x12x4 1 := cmpi .sge main_arg3 main_v12
  let main_c_5 : IVec S_ 32 := constantI S_ 32 512#32
  let main_v14 : IVec S1024x12x4 32 := broadcastInDim S1024x12x4 ![] bcast_S_S1024x12x4 main_c_5
  let main_v15 : IVec S1024x12x4 1 := cmpi .sle main_arg3 main_v14
  let main_v16 : IVec S1024x12x4 1 := andi main_v13 main_v15
  fn_part1 (F := F) main_arg4 main_arg6 main_arg8 main_arg10 main_v4 main_v6 main_v11 main_v16
-- ==== Kernel.lean ====
abbrev S1024x12 : Shape := ⟨2, ![1024, 12]⟩
abbrev S1024x12x4 : Shape := ⟨3, ![1024, 12, 4]⟩
abbrev S1025x1024 : Shape := ⟨2, ![1025, 1024]⟩
abbrev S1024x128 : Shape := ⟨2, ![1024, 128]⟩
abbrev S128x128 : Shape := ⟨2, ![128, 128]⟩
abbrev S1024x512 : Shape := ⟨2, ![1024, 512]⟩
abbrev S513x512 : Shape := ⟨2, ![513, 512]⟩
abbrev S1024x12x1 : Shape := ⟨3, ![1024, 12, 1]⟩
abbrev S1024x84 : Shape := ⟨2, ![1024, 84]⟩
abbrev S12x1024x1024 : Shape := ⟨3, ![12, 1024, 1024]⟩
abbrev S12x1024x128 : Shape := ⟨3, ![12, 1024, 128]⟩
abbrev S12x1024x512 : Shape := ⟨3, ![12, 1024, 512]⟩
abbrev S32x84 : Shape := ⟨2, ![32, 84]⟩
abbrev S12x32x1024 : Shape := ⟨3, ![12, 32, 1024]⟩
abbrev S12x32x128 : Shape := ⟨3, ![12, 32, 128]⟩
abbrev S12x32x512 : Shape := ⟨3, ![12, 32, 512]⟩
abbrev S1024x768 : Shape := ⟨2, ![1024, 768]⟩
abbrev S32x1 : Shape := ⟨2, ![32, 1]⟩
abbrev S1x32x1 : Shape := ⟨3, ![1, 32, 1]⟩
abbrev S12x32x1 : Shape := ⟨3, ![12, 32, 1]⟩
abbrev S32x1024 : Shape := ⟨2, ![32, 1024]⟩
abbrev S1x32x1024 : Shape := ⟨3, ![1, 32, 1024]⟩
abbrev S384x1024 : Shape := ⟨2, ![384, 1024]⟩
abbrev S384x768 : Shape := ⟨2, ![384, 768]⟩
abbrev S12x32x768 : Shape := ⟨3, ![12, 32, 768]⟩
abbrev S12x32 : Shape := ⟨2, ![12, 32]⟩
abbrev S1024x12x1024 : Shape := ⟨3, ![1024, 12, 1024]⟩
abbrev S1024x12x128 : Shape := ⟨3, ![1024, 12, 128]⟩
abbrev S1024x12x512 : Shape := ⟨3, ![1024, 12, 512]⟩

abbrev nBuf : Space → Nat
  | .hbm => 28
  | .vmem => 14
  | .smem => 0
  | _ => 0

abbrev bufTy : (tb : Table) → Fin (tcTables nBuf tb) → BufTy
  | .hbm, ⟨0, _⟩ => ⟨S1024x12, .i32⟩
  | .hbm, ⟨1, _⟩ => ⟨S1024x12, .i32⟩
  | .hbm, ⟨2, _⟩ => ⟨S1024x12, .i32⟩
  | .hbm, ⟨3, _⟩ => ⟨S1024x12x4, .i32⟩
  | .hbm, ⟨4, _⟩ => ⟨S1025x1024, .f32⟩
  | .hbm, ⟨5, _⟩ => ⟨S1024x128, .f32⟩
  | .hbm, ⟨6, _⟩ => ⟨S128x128, .f32⟩
  | .hbm, ⟨7, _⟩ => ⟨S1024x128, .f32⟩
  | .hbm, ⟨8, _⟩ => ⟨S128x128, .f32⟩
  | .hbm, ⟨9, _⟩ => ⟨S1024x512, .f32⟩
  | .hbm, ⟨10, _⟩ => ⟨S513x512, .f32⟩
  | .hbm, ⟨11, _⟩ => ⟨S1024x12x1, .i32⟩
  | .hbm, ⟨12, _⟩ => ⟨S1024x12, .i32⟩
  | .hbm, ⟨13, _⟩ => ⟨S1024x12x1, .i32⟩
  | .hbm, ⟨14, _⟩ => ⟨S1024x12, .i32⟩
  | .hbm, ⟨15, _⟩ => ⟨S1024x12x1, .i32⟩
  | .hbm, ⟨16, _⟩ => ⟨S1024x12, .i32⟩
  | .hbm, ⟨17, _⟩ => ⟨S1024x12x1, .i32⟩
  | .hbm, ⟨18, _⟩ => ⟨S1024x12, .i32⟩
  | .hbm, ⟨19, _⟩ => ⟨S1024x84, .i32⟩
  | .hbm, ⟨20, _⟩ => ⟨S12x1024x1024, .f32⟩
  | .hbm, ⟨21, _⟩ => ⟨S12x1024x128, .f32⟩
  | .hbm, ⟨22, _⟩ => ⟨S12x1024x128, .f32⟩
  | .hbm, ⟨23, _⟩ => ⟨S12x1024x512, .f32⟩
  | .hbm, ⟨24, _⟩ => ⟨S1024x12x1024, .f32⟩
  | .hbm, ⟨25, _⟩ => ⟨S1024x12x128, .f32⟩
  | .hbm, ⟨26, _⟩ => ⟨S1024x12x128, .f32⟩
  | .hbm, ⟨27, _⟩ => ⟨S1024x12x512, .f32⟩
  | .local _ .vmem, ⟨0, _⟩ => ⟨S32x84, .i32⟩
  | .local _ .vmem, ⟨1, _⟩ => ⟨S32x84, .i32⟩
  | .local _ .vmem, ⟨2, _⟩ => ⟨S1024x128, .f32⟩
  | .local _ .vmem, ⟨3, _⟩ => ⟨S1024x128, .f32⟩
  | .local _ .vmem, ⟨4, _⟩ => ⟨S1024x512, .f32⟩
  | .local _ .vmem, ⟨5, _⟩ => ⟨S12x32x1024, .f32⟩
  | .local _ .vmem, ⟨6, _⟩ => ⟨S12x32x1024, .f32⟩
  | .local _ .vmem, ⟨7, _⟩ => ⟨S12x32x128, .f32⟩
  | .local _ .vmem, ⟨8, _⟩ => ⟨S12x32x128, .f32⟩
  | .local _ .vmem, ⟨9, _⟩ => ⟨S12x32x128, .f32⟩
  | .local _ .vmem, ⟨10, _⟩ => ⟨S12x32x128, .f32⟩
  | .local _ .vmem, ⟨11, _⟩ => ⟨S12x32x512, .f32⟩
  | .local _ .vmem, ⟨12, _⟩ => ⟨S12x32x512, .f32⟩
  | .local _ .vmem, ⟨13, _⟩ => ⟨S1024x768, .bf16⟩
  | _, _ => ⟨S1024x12, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x84 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S12x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S12x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S12x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1024x12 : Shape := ⟨2, ![1024, 12]⟩
abbrev S1024x12x4 : Shape := ⟨3, ![1024, 12, 4]⟩
abbrev S1025x1024 : Shape := ⟨2, ![1025, 1024]⟩
abbrev S1024x128 : Shape := ⟨2, ![1024, 128]⟩
abbrev S128x128 : Shape := ⟨2, ![128, 128]⟩
abbrev S1024x512 : Shape := ⟨2, ![1024, 512]⟩
abbrev S513x512 : Shape := ⟨2, ![513, 512]⟩
abbrev S_ : Shape := ⟨0, ![]⟩
abbrev S1024x12x1 : Shape := ⟨3, ![1024, 12, 1]⟩
abbrev S1 : Shape := ⟨1, ![1]⟩
abbrev S1x1x1 : Shape := ⟨3, ![1, 1, 1]⟩
abbrev S1024x12x1024 : Shape := ⟨3, ![1024, 12, 1024]⟩
abbrev S1024x1024 : Shape := ⟨2, ![1024, 1024]⟩
abbrev S1024x1x1024 : Shape := ⟨3, ![1024, 1, 1024]⟩
abbrev S1024x12x128 : Shape := ⟨3, ![1024, 12, 128]⟩
abbrev S1024x12x4x1 : Shape := ⟨4, ![1024, 12, 4, 1]⟩
abbrev S1x1x1x1 : Shape := ⟨4, ![1, 1, 1, 1]⟩
abbrev S1024x12x4x512 : Shape := ⟨4, ![1024, 12, 4, 512]⟩
abbrev S1024x12x512 : Shape := ⟨3, ![1024, 12, 512]⟩

abbrev nBuf : Space → Nat
  | .hbm => 204
  | .vmem => 0
  | .smem => 0
  | _ => 0

abbrev hbmTy0_0 (i : Nat) : BufTy := match i % 128 with
  | 0 => ⟨S1024x12, .i32⟩
  | 1 => ⟨S1024x12, .i32⟩
  | 2 => ⟨S1024x12, .i32⟩
  | 3 => ⟨S1024x12x4, .i32⟩
  | 4 => ⟨S1025x1024, .f32⟩
  | 5 => ⟨S1024x128, .f32⟩
  | 6 => ⟨S128x128, .f32⟩
  | 7 => ⟨S1024x128, .f32⟩
  | 8 => ⟨S128x128, .f32⟩
  | 9 => ⟨S1024x512, .f32⟩
  | 10 => ⟨S513x512, .f32⟩
  | 11 => ⟨S_, .i32⟩
  | 12 => ⟨S1024x12, .i32⟩
  | 13 => ⟨S1024x12, .i1⟩
  | 14 => ⟨S1024x12x1, .i1⟩
  | 15 => ⟨S_, .i32⟩
  | 16 => ⟨S1024x12, .i32⟩
  | 17 => ⟨S1024x12, .i1⟩
  | 18 => ⟨S_, .i32⟩
  | 19 => ⟨S1024x12, .i32⟩
  | 20 => ⟨S1024x12, .i32⟩
  | 21 => ⟨S1024x12, .i32⟩
  | 22 => ⟨S1024x12x1, .i32⟩
  | 23 => ⟨S1, .i32⟩
  | 24 => ⟨S_, .i32⟩
  | 25 => ⟨S1024x12x1, .i32⟩
  | 26 => ⟨S1024x12x1, .i1⟩
  | 27 => ⟨S1x1x1, .i32⟩
  | 28 => ⟨S1024x12x1, .i32⟩
  | 29 => ⟨S1024x12x1, .i1⟩
  | 30 => ⟨S1024x12x1, .i1⟩
  | 31 => ⟨S_, .i1⟩
  | 32 => ⟨S1024x12, .i1⟩
  | 33 => ⟨S1024x12x1024, .f32⟩
  | 34 => ⟨S1024x12x1024, .i1⟩
  | 35 => ⟨S_, .f32⟩
  | 36 => ⟨S1024x12x1024, .f32⟩
  | 37 => ⟨S1024x12x1024, .f32⟩
  | 38 => ⟨S_, .f32⟩
  | 39 => ⟨S1024x12x1024, .f32⟩
  | 40 => ⟨S_, .f32⟩
  | 41 => ⟨S1024x1024, .f32⟩
  | 42 => ⟨S1024x1x1024, .f32⟩
  | 43 => ⟨S1024x12x1024, .f32⟩
  | 44 => ⟨S1024x12x1024, .f32⟩
  | 45 => ⟨S_, .f32⟩
  | 46 => ⟨S1024x12, .f32⟩
  | 47 => ⟨S1024x12x1, .f32⟩
  | 48 => ⟨S_, .f32⟩
  | 49 => ⟨S1024x12x1, .f32⟩
  | 50 => ⟨S1024x12x1, .f32⟩
  | 51 => ⟨S1024x12x1024, .f32⟩
  | 52 => ⟨S1024x12x1024, .f32⟩
  | 53 => ⟨S1024x12x1024, .i1⟩
  | 54 => ⟨S1024x12x1024, .f32⟩
  | 55 => ⟨S_, .i32⟩
  | 56 => ⟨S1024x12, .i32⟩
  | 57 => ⟨S1024x12, .i1⟩
  | 58 => ⟨S1024x12x1, .i1⟩
  | 59 => ⟨S_, .i32⟩
  | 60 => ⟨S1024x12, .i32⟩
  | 61 => ⟨S1024x12, .i32⟩
  | 62 => ⟨S_, .i32⟩
  | 63 => ⟨S1024x12, .i32⟩
  | 64 => ⟨S1024x12, .i32⟩
  | 65 => ⟨S_, .i32⟩
  | 66 => ⟨S1024x12, .i32⟩
  | 67 => ⟨S1024x12, .i1⟩
  | 68 => ⟨S_, .i32⟩
  | 69 => ⟨S1024x12, .i32⟩
  | 70 => ⟨S1024x12, .i32⟩
  | 71 => ⟨S1024x12, .i32⟩
  | 72 => ⟨S1024x12x1, .i32⟩
  | 73 => ⟨S1, .i32⟩
  | 74 => ⟨S_, .i32⟩
  | 75 => ⟨S1024x12x1, .i32⟩
  | 76 => ⟨S1024x12x1, .i1⟩
  | 77 => ⟨S1x1x1, .i32⟩
  | 78 => ⟨S1024x12x1, .i32⟩
  | 79 => ⟨S1024x12x1, .i1⟩
  | 80 => ⟨S1024x12x1, .i1⟩
  | 81 => ⟨S_, .i1⟩
  | 82 => ⟨S1024x12, .i1⟩
  | 83 => ⟨S1024x12x128, .f32⟩
  | 84 => ⟨S1024x12x128, .i1⟩
  | 85 => ⟨S_, .f32⟩
  | 86 => ⟨S1024x12x128, .f32⟩
  | 87 => ⟨S1024x12x128, .f32⟩
  | 88 => ⟨S1024x12x128, .f32⟩
  | 89 => ⟨S_, .f32⟩
  | 90 => ⟨S1024x12, .f32⟩
  | 91 => ⟨S1024x12x1, .f32⟩
  | 92 => ⟨S_, .f32⟩
  | 93 => ⟨S1024x12x1, .f32⟩
  | 94 => ⟨S1024x12x1, .f32⟩
  | 95 => ⟨S1024x12x128, .f32⟩
  | 96 => ⟨S1024x12x128, .f32⟩
  | 97 => ⟨S1024x12x128, .i1⟩
  | 98 => ⟨S1024x12x128, .f32⟩
  | 99 => ⟨S_, .i32⟩
  | 100 => ⟨S1024x12, .i32⟩
  | 101 => ⟨S1024x12, .i1⟩
  | 102 => ⟨S1024x12x1, .i1⟩
  | 103 => ⟨S_, .i32⟩
  | 104 => ⟨S1024x12, .i32⟩
  | 105 => ⟨S1024x12, .i32⟩
  | 106 => ⟨S_, .i32⟩
  | 107 => ⟨S1024x12, .i32⟩
  | 108 => ⟨S1024x12, .i32⟩
  | 109 => ⟨S_, .i32⟩
  | 110 => ⟨S1024x12, .i32⟩
  | 111 => ⟨S1024x12, .i1⟩
  | 112 => ⟨S_, .i32⟩
  | 113 => ⟨S1024x12, .i32⟩
  | 114 => ⟨S1024x12, .i32⟩
  | 115 => ⟨S1024x12, .i32⟩
  | 116 => ⟨S1024x12x1, .i32⟩
  | 117 => ⟨S1, .i32⟩
  | 118 => ⟨S_, .i32⟩
  | 119 => ⟨S1024x12x1, .i32⟩
  | 120 => ⟨S1024x12x1, .i1⟩
  | 121 => ⟨S1x1x1, .i32⟩
  | 122 => ⟨S1024x12x1, .i32⟩
  | 123 => ⟨S1024x12x1, .i1⟩
  | 124 => ⟨S1024x12x1, .i1⟩
  | 125 => ⟨S_, .i1⟩
  | 126 => ⟨S1024x12, .i1⟩
  | 127 => ⟨S1024x12x128, .f32⟩
  | _ => ⟨S1024x12, .i32⟩

abbrev hbmTy0_1 (i : Nat) : BufTy := match i % 128 with
  | 0 => ⟨S1024x12x128, .i1⟩
  | 1 => ⟨S_, .f32⟩
  | 2 => ⟨S1024x12x128, .f32⟩
  | 3 => ⟨S1024x12x128, .f32⟩
  | 4 => ⟨S1024x12x128, .f32⟩
  | 5 => ⟨S_, .f32⟩
  | 6 => ⟨S1024x12, .f32⟩
  | 7 => ⟨S1024x12x1, .f32⟩
  | 8 => ⟨S_, .f32⟩
  | 9 => ⟨S1024x12x1, .f32⟩
  | 10 => ⟨S1024x12x1, .f32⟩
  | 11 => ⟨S1024x12x128, .f32⟩
  | 12 => ⟨S1024x12x128, .f32⟩
  | 13 => ⟨S1024x12x128, .i1⟩
  | 14 => ⟨S1024x12x128, .f32⟩
  | 15 => ⟨S_, .i32⟩
  | 16 => ⟨S1024x12, .i32⟩
  | 17 => ⟨S_, .i32⟩
  | 18 => ⟨S1024x12, .i32⟩
  | 19 => ⟨S1024x12, .i1⟩
  | 20 => ⟨S1024x12, .i1⟩
  | 21 => ⟨S1024x12x1, .i1⟩
  | 22 => ⟨S_, .i32⟩
  | 23 => ⟨S1024x12x4, .i32⟩
  | 24 => ⟨S1024x12x4, .i1⟩
  | 25 => ⟨S_, .i32⟩
  | 26 => ⟨S1024x12x4, .i32⟩
  | 27 => ⟨S1024x12x4, .i32⟩
  | 28 => ⟨S1024x12x4, .i32⟩
  | 29 => ⟨S1024x12x4x1, .i32⟩
  | 30 => ⟨S1, .i32⟩
  | 31 => ⟨S_, .i32⟩
  | 32 => ⟨S1024x12x4x1, .i32⟩
  | 33 => ⟨S1024x12x4x1, .i1⟩
  | 34 => ⟨S1x1x1x1, .i32⟩
  | 35 => ⟨S1024x12x4x1, .i32⟩
  | 36 => ⟨S1024x12x4x1, .i1⟩
  | 37 => ⟨S1024x12x4x1, .i1⟩
  | 38 => ⟨S_, .i1⟩
  | 39 => ⟨S1024x12x4, .i1⟩
  | 40 => ⟨S1024x12x4x512, .f32⟩
  | 41 => ⟨S1024x12x4x512, .i1⟩
  | 42 => ⟨S_, .f32⟩
  | 43 => ⟨S1024x12x4x512, .f32⟩
  | 44 => ⟨S1024x12x4x512, .f32⟩
  | 45 => ⟨S_, .f32⟩
  | 46 => ⟨S1024x12x512, .f32⟩
  | 47 => ⟨S1024x12x512, .f32⟩
  | 48 => ⟨S1024x12x512, .f32⟩
  | 49 => ⟨S_, .f32⟩
  | 50 => ⟨S1024x12, .f32⟩
  | 51 => ⟨S1024x12x1, .f32⟩
  | 52 => ⟨S_, .f32⟩
  | 53 => ⟨S1024x12x1, .f32⟩
  | 54 => ⟨S1024x12x1, .f32⟩
  | 55 => ⟨S1024x12x512, .f32⟩
  | 56 => ⟨S1024x12x512, .f32⟩
  | 57 => ⟨S_, .f32⟩
  | 58 => ⟨S1024x12x512, .f32⟩
  | 59 => ⟨S1024x12x512, .i1⟩
  | 60 => ⟨S1024x12x512, .i32⟩
  | 61 => ⟨S_, .i32⟩
  | 62 => ⟨S1024x12, .i32⟩
  | 63 => ⟨S1024x12x1, .i32⟩
  | 64 => ⟨S_, .i32⟩
  | 65 => ⟨S1024x12x1, .i32⟩
  | 66 => ⟨S1024x12x1, .i32⟩
  | 67 => ⟨S1024x12x1, .f32⟩
  | 68 => ⟨S1024x12x512, .f32⟩
  | 69 => ⟨S1024x12x512, .f32⟩
  | 70 => ⟨S1024x12x512, .f32⟩
  | 71 => ⟨S_, .f32⟩
  | 72 => ⟨S1024x12x512, .f32⟩
  | 73 => ⟨S1024x12x512, .f32⟩
  | 74 => ⟨S1024x12x512, .i1⟩
  | 75 => ⟨S1024x12x512, .f32⟩
  | _ => ⟨S1024x12, .i32⟩

abbrev hbmTy (i : Nat) : BufTy := match i / 128 with
  | 0 => hbmTy0_0 i
  | 1 => hbmTy0_1 i
  | _ => ⟨S1024x12, .i32⟩

abbrev bufTy : (tb : Table) → Fin (tcTables nBuf tb) → BufTy
  | .hbm, ⟨i, _⟩ => hbmTy i
  | _, _ => ⟨S1024x12, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v3 : Ref sig .tc := ⟨.hbm, 37, rfl⟩
abbrev main_cst : Ref sig .tc := ⟨.hbm, 38, rfl⟩
abbrev main_v4 : Ref sig .tc := ⟨.hbm, 39, rfl⟩
abbrev main_cst_0 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_cst_2 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_call1_v0 : Ref sig .tc := ⟨.hbm, 53, rfl⟩
abbrev main_v15 : Ref sig .tc := ⟨.hbm, 54, rfl⟩
abbrev main_c_3 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_4 : Ref sig .tc := ⟨.hbm, 59, rfl⟩
abbrev main_v19 : Ref sig .tc := ⟨.hbm, 60, rfl⟩
abbrev main_v20 : Ref sig .tc := ⟨.hbm, 61, rfl⟩
abbrev main_c_5 : Ref sig .tc := ⟨.hbm, 62, rfl⟩
abbrev main_v21 : Ref sig .tc := ⟨.hbm, 63, rfl⟩
abbrev main_v22 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v23 : Ref sig .tc := ⟨.hbm, 87, rfl⟩
abbrev main_v24 : Ref sig .tc := ⟨.hbm, 88, rfl⟩
abbrev main_cst_6 : Ref sig .tc := ⟨.hbm, 89, rfl⟩
abbrev main_v25 : Ref sig .tc := ⟨.hbm, 90, rfl⟩
abbrev main_v26 : Ref sig .tc := ⟨.hbm, 91, rfl⟩
abbrev main_cst_7 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_call3_v0 : Ref sig .tc := ⟨.hbm, 97, rfl⟩
abbrev main_v31 : Ref sig .tc := ⟨.hbm, 98, rfl⟩
abbrev main_c_8 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_9 : Ref sig .tc := ⟨.hbm, 103, rfl⟩
abbrev main_v35 : Ref sig .tc := ⟨.hbm, 104, rfl⟩
abbrev main_v36 : Ref sig .tc := ⟨.hbm, 105, rfl⟩
abbrev main_c_10 : Ref sig .tc := ⟨.hbm, 106, rfl⟩
abbrev main_v37 : Ref sig .tc := ⟨.hbm, 107, rfl⟩
abbrev main_v38 : Ref sig .tc := ⟨.hbm, 108, rfl⟩
abbrev main_call4_c : Ref sig .tc := ⟨.hbm, 109, rfl⟩
abbrev main_call4_v0 : Ref sig .tc := ⟨.hbm, 110, rfl⟩
abbrev main_call4_v1 : Ref sig .tc := ⟨.hbm, 111, rfl⟩
abbrev main_call4_c_0 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_c_1 : Ref sig .tc := ⟨.hbm, 117, rfl⟩
abbrev main_call4_c_2 : Ref sig .tc := ⟨.hbm, 118, rfl⟩
abbrev main_call4_v6 : Ref sig .tc := ⟨.hbm, 119, rfl⟩
abbrev main_call4_v7 : Ref sig .tc := ⟨.hbm, 120, rfl⟩
abbrev main_call4_v8 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_c_3 : Ref sig .tc := ⟨.hbm, 125, rfl⟩
abbrev main_call4_v12 : Ref sig .tc := ⟨.hbm, 126, rfl⟩
abbrev main_call4_v13 : Ref sig .tc := ⟨.hbm, 127, rfl⟩
abbrev main_call4_v14 : Ref sig .tc := ⟨.hbm, 128, rfl⟩
abbrev main_call4_cst : Ref sig .tc := ⟨.hbm, 129, rfl⟩
abbrev main_call4_v15 : Ref sig .tc := ⟨.hbm, 130, rfl⟩
abbrev main_v39 : Ref sig .tc := ⟨.hbm, 131, rfl⟩
abbrev main_v40 : Ref sig .tc := ⟨.hbm, 132, rfl⟩
abbrev main_cst_11 : Ref sig .tc := ⟨.hbm, 133, rfl⟩
abbrev main_v41 : Ref sig .tc := ⟨.hbm, 134, rfl⟩
abbrev main_v42 : Ref sig .tc := ⟨.hbm, 135, rfl⟩
abbrev main_cst_12 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_call5_v0 : Ref sig .tc := ⟨.hbm, 141, rfl⟩
abbrev main_v47 : Ref sig .tc := ⟨.hbm, 142, rfl⟩
abbrev main_c_13 : Ref sig .tc := ⟨.hbm, 143, rfl⟩
abbrev main_v48 : Ref sig .tc := ⟨.hbm, 144, rfl⟩
abbrev main_c_14 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_call6_c : Ref sig .tc := ⟨.hbm, 150, rfl⟩
abbrev main_call6_v0 : Ref sig .tc := ⟨.hbm, 151, rfl⟩
abbrev main_call6_v1 : Ref sig .tc := ⟨.hbm, 152, rfl⟩
abbrev main_call6_c_0 : Ref sig .tc := ⟨.hbm, 153, rfl⟩
abbrev main_call6_v2 : Ref sig .tc := ⟨.hbm, 154, rfl⟩
abbrev main_call6_v3 : Ref sig .tc := ⟨.hbm, 155, rfl⟩
abbrev main_call6_v4 : Ref sig .tc := ⟨.hbm, 156, rfl⟩
abbrev main_call6_v5 : Ref sig .tc := ⟨.hbm, 157, rfl⟩
abbrev main_call6_c_1 : Ref sig .tc := ⟨.hbm, 158, rfl⟩
abbrev main_call6_c_2 : Ref sig .tc := ⟨.hbm, 159, rfl⟩
abbrev main_call6_v6 : Ref sig .tc := ⟨.hbm, 160, rfl⟩
abbrev main_call6_v7 : Ref sig .tc := ⟨.hbm, 161, rfl⟩
abbrev main_call6_v8 : Ref sig .tc := ⟨.hbm, 162, rfl⟩
abbrev main_call6_v9 : Ref sig .tc := ⟨.hbm, 163, rfl⟩
abbrev main_call6_v10 : Ref sig .tc := ⟨.hbm, 164, rfl⟩
abbrev main_call6_v11 : Ref sig .tc := ⟨.hbm, 165, rfl⟩
abbrev main_call6_c_3 : Ref sig .tc := ⟨.hbm, 166, rfl⟩
abbrev main_call6_v12 : Ref sig .tc := ⟨.hbm, 167, rfl⟩
abbrev main_call6_v13 : Ref sig .tc := ⟨.hbm, 168, rfl⟩
abbrev main_call6_v14 : Ref sig .tc := ⟨.hbm, 169, rfl⟩
abbrev main_call6_cst : Ref sig .tc := ⟨.hbm, 170, rfl⟩
abbrev main_call6_v15 : Ref sig .tc := ⟨.hbm, 171, rfl⟩
abbrev main_v53 : Ref sig .tc := ⟨.hbm, 172, rfl⟩
abbrev main_cst_15 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_cst_16 : Ref sig .tc := ⟨.hbm, 177, rfl⟩
abbrev main_v57 : Ref sig .tc := ⟨.hbm, 178, rfl⟩
abbrev main_v58 : Ref sig .tc := ⟨.hbm, 179, rfl⟩
abbrev main_cst_17 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_cst_18 : Ref sig .tc := ⟨.hbm, 185, rfl⟩
abbrev main_v63 : Ref sig .tc := ⟨.hbm, 186, rfl⟩
abbrev main_v64 : Ref sig .tc := ⟨.hbm, 187, rfl⟩
abbrev main_v65 : Ref sig .tc := ⟨.hbm, 188, rfl⟩
abbrev main_c_19 : Ref sig .tc := ⟨.hbm, 189, rfl⟩
abbrev main_v66 : Ref sig .tc := ⟨.hbm, 190, rfl⟩
abbrev main_v67 : Ref sig .tc := ⟨.hbm, 191, rfl⟩
abbrev main_c_20 : Ref sig .tc := ⟨.hbm, 192, rfl⟩
abbrev main_v68 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩
abbrev main_v72 : Ref sig .tc := ⟨.hbm, 197, rfl⟩
abbrev main_v73 : Ref sig .tc := ⟨.hbm, 198, rfl⟩
abbrev main_cst_21 : Ref sig .tc := ⟨.hbm, 199, rfl⟩
abbrev main_v74 : Ref sig .tc := ⟨.hbm, 200, rfl⟩
abbrev main_v75 : Ref sig .tc := ⟨.hbm, 201, rfl⟩
abbrev main_call7_v0 : Ref sig .tc := ⟨.hbm, 202, rfl⟩
abbrev main_v76 : Ref sig .tc := ⟨.hbm, 203, rfl⟩

abbrev nD : Nat := 1
abbrev τ : Topo := Topo.v7x

variable {F : FTy → Type} [FloatOps F]
-- ==== Proof.Block.lean ====
/-
  What one grid step of the kernel computes, as closed terms: the four output blocks as functions of the
  step's 32 token rows and of the concatenated weights, and the concatenated weights themselves.
-/
module

public import proofs.«01_k».proof.Proof.Gen.KernelIdeal.Frame
public import Idealize.ShloMosaic.Lib.Pipeline.Value
public import Idealize.ShloMosaic.Lib.ValueIdx
public import Idealize.ShloMosaic.PureOps.Ideal.Laws

@[expose] public section

set_option maxRecDepth 16384

noncomputable section

namespace Cert.KernelIdeal.Blk

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The species tokens of a block as a 12 × 32 × 1 plane. -/
abbrev planeSp (x0 : Vec F S32x84 .i32) : IVec S12x32x1 32 := k0_pay6 x0
/-- The ability tokens of a block as a 12 × 32 × 1 plane. -/
abbrev planeAb (x0 : Vec F S32x84 .i32) : IVec S12x32x1 32 :=
  k0_pay19 (k0_pay7 x0) (k0_pay8 x0) (k0_pay9 x0) (k0_pay10 x0) (k0_pay11 x0) (k0_pay12 x0) (k0_pay13 x0) (k0_pay14 x0)
    (k0_pay15 x0) (k0_pay16 x0) (k0_pay17 x0) (k0_pay18 x0)
/-- The item tokens of a block as a 12 × 32 × 1 plane. -/
abbrev planeIt (x0 : Vec F S32x84 .i32) : IVec S12x32x1 32 := k0_pay20 (k0_pay5 x0)

/-- The species block. -/
def blockSp (x0 : Vec F S32x84 .i32) : FVec F S12x32x1024 .f32 :=
  k0_pay27 (k0_pay21 (planeSp x0)) (k0_pay25 (planeSp x0)) (k0_pay26 (planeSp x0))

/-- The ability block, from the token rows and the concatenated weights. -/
def blockAb (x0 : Vec F S32x84 .i32) (W : Vec F S1024x768 .bf16) : FVec F S12x32x128 .f32 :=
  k0_pay32 (planeAb x0) (iota .tc S12x32x128 32 [2] iota_S12x32x128_d2_w32) (k0_pay21 (planeSp x0)) (k0_pay22 (planeSp x0))
    (k0_pay23 (planeSp x0)) (k0_pay24 (planeSp x0)) W

/-- The item block, from the token rows and the concatenated weights. -/
def blockIt (x0 : Vec F S32x84 .i32) (W : Vec F S1024x768 .bf16) : FVec F S12x32x128 .f32 :=
  k0_pay34 (planeIt x0) (iota .tc S12x32x128 32 [2] iota_S12x32x128_d2_w32)
    (k0_pay29 (k0_pay21 (planeSp x0)) (k0_pay22 (planeSp x0)) (k0_pay23 (planeSp x0)) (k0_pay24 (planeSp x0)) W)
    (k0_pay31 (planeAb x0)) k0_pay33

/-- The sum of the first two one-hot move rows of a block. -/
abbrev moves01 (x0 : Vec F S32x84 .i32) : FVec F S12x32x512 .f32 :=
  k0_pay40 (k0_pay5 x0) (iota .tc S12x32x512 32 [2] iota_S12x32x512_d2_w32) k0_pay35
    (k0_pay38 (k0_pay5 x0) (iota .tc S12x32x512 32 [2] iota_S12x32x512_d2_w32))

/-- The sum of the first two move tokens of a block. -/
abbrev toks01 (x0 : Vec F S32x84 .i32) : IVec S12x32x1 32 :=
  k0_pay41 (k0_pay5 x0) k0_pay36 (k0_pay37 (k0_pay5 x0))

/-- The move block, from the token rows and the concatenated weights. -/
def blockMv (x0 : Vec F S32x84 .i32) (W : Vec F S1024x768 .bf16) : FVec F S12x32x512 .f32 :=
  k0_pay1 (k0_pay22 (planeSp x0))
    (k0_pay56 (k0_pay5 x0) (iota .tc S12x32x512 32 [2] iota_S12x32x512_d2_w32) (moves01 x0) (k0_pay42 (k0_pay5 x0)) (k0_pay43 (k0_pay5 x0)) (k0_pay44 (k0_pay5 x0)) (k0_pay45 (k0_pay5 x0)) (k0_pay46 (k0_pay5 x0)) (k0_pay47 (k0_pay5 x0)) (k0_pay48 (k0_pay5 x0)) (k0_pay49 (k0_pay5 x0)) (k0_pay50 (k0_pay5 x0)) (k0_pay51 (k0_pay5 x0)) (k0_pay52 (k0_pay5 x0)) (k0_pay53 (k0_pay5 x0)))
    (k0_pay57 (k0_pay5 x0) (toks01 x0) (k0_pay42 (k0_pay5 x0)) (k0_pay43 (k0_pay5 x0)) (k0_pay44 (k0_pay5 x0)) (k0_pay45 (k0_pay5 x0)) (k0_pay46 (k0_pay5 x0)) (k0_pay47 (k0_pay5 x0)) (k0_pay48 (k0_pay5 x0)) (k0_pay49 (k0_pay5 x0)) (k0_pay50 (k0_pay5 x0)) (k0_pay51 (k0_pay5 x0)) (k0_pay52 (k0_pay5 x0)) (k0_pay53 (k0_pay5 x0)))
    (k0_pay58 (k0_pay5 x0) (iota .tc S12x32x512 32 [2] iota_S12x32x512_d2_w32)
      (k0_pay30 (k0_pay21 (planeSp x0)) (k0_pay22 (planeSp x0)) (k0_pay23 (planeSp x0)) (k0_pay24 (planeSp x0)) W)
      (moves01 x0) (k0_pay42 (k0_pay5 x0)) (k0_pay43 (k0_pay5 x0)) (k0_pay44 (k0_pay5 x0)) (k0_pay45 (k0_pay5 x0)) (k0_pay46 (k0_pay5 x0)) (k0_pay47 (k0_pay5 x0)) (k0_pay48 (k0_pay5 x0)) (k0_pay49 (k0_pay5 x0)) (k0_pay50 (k0_pay5 x0)) (k0_pay51 (k0_pay5 x0)) (k0_pay52 (k0_pay5 x0)) (k0_pay53 (k0_pay5 x0)))
    (k0_pay59 (k0_pay5 x0) (iota .tc S12x32x512 32 [2] iota_S12x32x512_d2_w32) (moves01 x0) (k0_pay42 (k0_pay5 x0)) (k0_pay43 (k0_pay5 x0)) (k0_pay44 (k0_pay5 x0)) (k0_pay45 (k0_pay5 x0)) (k0_pay46 (k0_pay5 x0)) (k0_pay47 (k0_pay5 x0)) (k0_pay48 (k0_pay5 x0)) (k0_pay49 (k0_pay5 x0)) (k0_pay50 (k0_pay5 x0)) (k0_pay51 (k0_pay5 x0)) (k0_pay52 (k0_pay5 x0)) (k0_pay53 (k0_pay5 x0)))

/-- At a later grid step the species block stored is `blockSp` of the token rows and of the weights kept from before. -/
theorem outB_4 (c : Dev nD) (i : grid0.Coords) (a1 : Memref sig .tc .vmem S32x84 .i32) (h1 : a1.IsWhole) (a2 : Memref sig .tc .vmem S1024x128 .f32) (h2 : a2.IsWhole) (a3 : Memref sig .tc .vmem S1024x128 .f32) (h3 : a3.IsWhole) (a4 : Memref sig .tc .vmem S1024x512 .f32) (h4 : a4.IsWhole) (a5 : Memref sig .tc .vmem S12x32x1024 .f32) (h5 : a5.IsWhole) (a6 : Memref sig .tc .vmem S12x32x128 .f32) (h6 : a6.IsWhole) (a7 : Memref sig .tc .vmem S12x32x128 .f32) (h7 : a7.IsWhole) (a8 : Memref sig .tc .vmem S12x32x512 .f32) (h8 : a8.IsWhole) (a9 : Memref sig .tc .vmem S1024x768 .bf16) (h9 : a9.IsWhole) (hc : ¬cond0_0 i)
    (x0 : Vec F S32x84 .i32) (x1 : Vec F S1024x128 .f32) (x2 : Vec F S1024x128 .f32) (x3 : Vec F S1024x512 .f32) (xs : Vec F S1024x768 .bf16) :
    out0_B_4 c i a1 h1 a2 h2 a3 h3 a4 h4 a5 h5 a6 h6 a7 h7 a8 h8 a9 h9 hc x0 x1 x2 x3 xs = blockSp x0 := by
  unfold out0_B_4
  rw [View.read_writes_eq_canon _ _ _ (cover0_B_4 c i a1 h1 a2 h2 a3 h3 a4 h4 a5 h5 a6 h6 a7 h7 a8 h8 a9 h9 hc x0 x1 x2 x3 xs)]
  unfold kernelRun0_B
  dsimp only
  sl_unfold_words
  rw [View.canon_unit_zero hz3]
  simp only [View.readAt_eq_ld, h1.read_unread, h9.read_unread, View.ld_unit_zero (S := S32x84) hz2, View.ld_unit_zero (S := S1024x768) hz2]
  rfl

/-- At a later grid step the ability block stored is `blockAb` of the token rows and of the weights kept from before. -/
theorem outB_5 (c : Dev nD) (i : grid0.Coords) (a1 : Memref sig .tc .vmem S32x84 .i32) (h1 : a1.IsWhole) (a2 : Memref sig .tc .vmem S1024x128 .f32) (h2 : a2.IsWhole) (a3 : Memref sig .tc .vmem S1024x128 .f32) (h3 : a3.IsWhole) (a4 : Memref sig .tc .vmem S1024x512 .f32) (h4 : a4.IsWhole) (a5 : Memref sig .tc .vmem S12x32x1024 .f32) (h5 : a5.IsWhole) (a6 : Memref sig .tc .vmem S12x32x128 .f32) (h6 : a6.IsWhole) (a7 : Memref sig .tc .vmem S12x32x128 .f32) (h7 : a7.IsWhole) (a8 : Memref sig .tc .vmem S12x32x512 .f32) (h8 : a8.IsWhole) (a9 : Memref sig .tc .vmem S1024x768 .bf16) (h9 : a9.IsWhole) (hc : ¬cond0_0 i)
    (x0 : Vec F S32x84 .i32) (x1 : Vec F S1024x128 .f32) (x2 : Vec F S1024x128 .f32) (x3 : Vec F S1024x512 .f32) (xs : Vec F S1024x768 .bf16) :
    out0_B_5 c i a1 h1 a2 h2 a3 h3 a4 h4 a5 h5 a6 h6 a7 h7 a8 h8 a9 h9 hc x0 x1 x2 x3 xs = blockAb x0 xs := by
  unfold out0_B_5
  rw [View.read_writes_eq_canon _ _ _ (cover0_B_5 c i a1 h1 a2 h2 a3 h3 a4 h4 a5 h5 a6 h6 a7 h7 a8 h8 a9 h9 hc x0 x1 x2 x3 xs)]
  unfold kernelRun0_B
  dsimp only
  sl_unfold_words
  rw [View.canon_unit_zero hz3]
  simp only [View.readAt_eq_ld, h1.read_unread, h9.read_unread, View.ld_unit_zero (S := S32x84) hz2, View.ld_unit_zero (S := S1024x768) hz2]
  rfl

/-- At a later grid step the item block stored is `blockIt` of the token rows and of the weights kept from before. -/
theorem outB_6 (c : Dev nD) (i : grid0.Coords) (a1 : Memref sig .tc .vmem S32x84 .i32) (h1 : a1.IsWhole) (a2 : Memref sig .tc .vmem S1024x128 .f32) (h2 : a2.IsWhole) (a3 : Memref sig .tc .vmem S1024x128 .f32) (h3 : a3.IsWhole) (a4 : Memref sig .tc .vmem S1024x512 .f32) (h4 : a4.IsWhole) (a5 : Memref sig .tc .vmem S12x32x1024 .f32) (h5 : a5.IsWhole) (a6 : Memref sig .tc .vmem S12x32x128 .f32) (h6 : a6.IsWhole) (a7 : Memref sig .tc .vmem S12x32x128 .f32) (h7 : a7.IsWhole) (a8 : Memref sig .tc .vmem S12x32x512 .f32) (h8 : a8.IsWhole) (a9 : Memref sig .tc .vmem S1024x768 .bf16) (h9 : a9.IsWhole) (hc : ¬cond0_0 i)
    (x0 : Vec F S32x84 .i32) (x1 : Vec F S1024x128 .f32) (x2 : Vec F S1024x128 .f32) (x3 : Vec F S1024x512 .f32) (xs : Vec F S1024x768 .bf16) :
    out0_B_6 c i a1 h1 a2 h2 a3 h3 a4 h4 a5 h5 a6 h6 a7 h7 a8 h8 a9 h9 hc x0 x1 x2 x3 xs = blockIt x0 xs := by
  unfold out0_B_6
  rw [View.read_writes_eq_canon _ _ _ (cover0_B_6 c i a1 h1 a2 h2 a3 h3 a4 h4 a5 h5 a6 h6 a7 h7 a8 h8 a9 h9 hc x0 x1 x2 x3 xs)]
  unfold kernelRun0_B
  dsimp only
  sl_unfold_words
  rw [View.canon_unit_zero hz3]
  simp only [View.readAt_eq_ld, h1.read_unread, h9.read_unread, View.ld_unit_zero (S := S32x84) hz2, View.ld_unit_zero (S := S1024x768) hz2]
  rfl

/-- At a later grid step the move block stored is `blockMv` of the token rows and of the weights kept from before. -/
theorem outB_7 (c : Dev nD) (i : grid0.Coords) (a1 : Memref sig .tc .vmem S32x84 .i32) (h1 : a1.IsWhole) (a2 : Memref sig .tc .vmem S1024x128 .f32) (h2 : a2.IsWhole) (a3 : Memref sig .tc .vmem S1024x128 .f32) (h3 : a3.IsWhole) (a4 : Memref sig .tc .vmem S1024x512 .f32) (h4 : a4.IsWhole) (a5 : Memref sig .tc .vmem S12x32x1024 .f32) (h5 : a5.IsWhole) (a6 : Memref sig .tc .vmem S12x32x128 .f32) (h6 : a6.IsWhole) (a7 : Memref sig .tc .vmem S12x32x128 .f32) (h7 : a7.IsWhole) (a8 : Memref sig .tc .vmem S12x32x512 .f32) (h8 : a8.IsWhole) (a9 : Memref sig .tc .vmem S1024x768 .bf16) (h9 : a9.IsWhole) (hc : ¬cond0_0 i)
    (x0 : Vec F S32x84 .i32) (x1 : Vec F S1024x128 .f32) (x2 : Vec F S1024x128 .f32) (x3 : Vec F S1024x512 .f32) (xs : Vec F S1024x768 .bf16) :
    out0_B_7 c i a1 h1 a2 h2 a3 h3 a4 h4 a5 h5 a6 h6 a7 h7 a8 h8 a9 h9 hc x0 x1 x2 x3 xs = blockMv x0 xs := by
  unfold out0_B_7
  rw [View.read_writes_eq_canon _ _ _ (cover0_B_7 c i a1 h1 a2 h2 a3 h3 a4 h4 a5 h5 a6 h6 a7 h7 a8 h8 a9 h9 hc x0 x1 x2 x3 xs)]
  unfold kernelRun0_B
  dsimp only
  sl_unfold_words
  rw [View.canon_unit_zero hz3]
  simp only [View.readAt_eq_ld, h1.read_unread, h9.read_unread, View.ld_unit_zero (S := S32x84) hz2, View.ld_unit_zero (S := S1024x768) hz2]
  rfl
/-- The three weight arrays, rounded to bf16 and laid side by side: what the first grid step leaves in the scratch. -/
def wcat (x1 : Vec F S1024x128 .f32) (x2 : Vec F S1024x128 .f32) (x3 : Vec F S1024x512 .f32) : Vec F S1024x768 .bf16 :=
  View.canon [⟨Rect.unit (s := S1024x768) ![0, 256] S1024x512.size inb_S1024x768_S1024x512_0_256, k0_pay4 x3⟩,
    ⟨Rect.unit (s := S1024x768) ![0, 128] S1024x128.size inb_S1024x768_S1024x128_0_128, k0_pay3 x2⟩,
    ⟨Rect.unit (s := S1024x768) ![0, 0] S1024x128.size inb_S1024x768_S1024x128_0_0, k0_pay2 x1⟩]

/-- A load of the whole scratch reads what the pieces stored leave. -/
theorem readCov_whole (v : View sig .tc .vmem S1024x768 .bf16) (L : List (View.Piece (Elt F) S1024x768 .bf16)) :
    v.readCov L (Rect.unit (s := S1024x768) ![0, 0] S1024x768.size inb_S1024x768_S1024x768_0_0).toLoadRect = View.canon L := by
  rw [View.readCov_eq_canon']
  exact View.ld_unit_zero (S := S1024x768) hz2 _ (View.canon L)

/-- At the first grid step the species block stored is `blockSp` of the token rows and of the weights just laid out. -/
theorem outA_4 (c : Dev nD) (i : grid0.Coords) (a1 : Memref sig .tc .vmem S32x84 .i32) (h1 : a1.IsWhole) (a2 : Memref sig .tc .vmem S1024x128 .f32) (h2 : a2.IsWhole) (a3 : Memref sig .tc .vmem S1024x128 .f32) (h3 : a3.IsWhole) (a4 : Memref sig .tc .vmem S1024x512 .f32) (h4 : a4.IsWhole) (a5 : Memref sig .tc .vmem S12x32x1024 .f32) (h5 : a5.IsWhole) (a6 : Memref sig .tc .vmem S12x32x128 .f32) (h6 : a6.IsWhole) (a7 : Memref sig .tc .vmem S12x32x128 .f32) (h7 : a7.IsWhole) (a8 : Memref sig .tc .vmem S12x32x512 .f32) (h8 : a8.IsWhole) (a9 : Memref sig .tc .vmem S1024x768 .bf16) (h9 : a9.IsWhole) (hc : cond0_0 i)
    (x0 : Vec F S32x84 .i32) (x1 : Vec F S1024x128 .f32) (x2 : Vec F S1024x128 .f32) (x3 : Vec F S1024x512 .f32) :
    out0_A_4 c i a1 h1 a2 h2 a3 h3 a4 h4 a5 h5 a6 h6 a7 h7 a8 h8 a9 h9 hc x0 x1 x2 x3 = blockSp x0 := by
  unfold out0_A_4
  rw [View.read_writes_eq_canon _ _ _ (cover0_A_4 c i a1 h1 a2 h2 a3 h3 a4 h4 a5 h5 a6 h6 a7 h7 a8 h8 a9 h9 hc x0 x1 x2 x3)]
  unfold kernelRun0_A
  dsimp only
  sl_unfold_words
  rw [View.canon_unit_zero hz3]
  simp only [View.readAt_eq_ld, h1.read_unread, h2.read_unread, h3.read_unread, h4.read_unread,
    View.ld_unit_zero (S := S32x84) hz2, View.ld_unit_zero (S := S1024x128) hz2, View.ld_unit_zero (S := S1024x512) hz2]
  rfl

/-- At the first grid step the ability block stored is `blockAb` of the token rows and of the weights just laid out. -/
theorem outA_5 (c : Dev nD) (i : grid0.Coords) (a1 : Memref sig .tc .vmem S32x84 .i32) (h1 : a1.IsWhole) (a2 : Memref sig .tc .vmem S1024x128 .f32) (h2 : a2.IsWhole) (a3 : Memref sig .tc .vmem S1024x128 .f32) (h3 : a3.IsWhole) (a4 : Memref sig .tc .vmem S1024x512 .f32) (h4 : a4.IsWhole) (a5 : Memref sig .tc .vmem S12x32x1024 .f32) (h5 : a5.IsWhole) (a6 : Memref sig .tc .vmem S12x32x128 .f32) (h6 : a6.IsWhole) (a7 : Memref sig .tc .vmem S12x32x128 .f32) (h7 : a7.IsWhole) (a8 : Memref sig .tc .vmem S12x32x512 .f32) (h8 : a8.IsWhole) (a9 : Memref sig .tc .vmem S1024x768 .bf16) (h9 : a9.IsWhole) (hc : cond0_0 i)
    (x0 : Vec F S32x84 .i32) (x1 : Vec F S1024x128 .f32) (x2 : Vec F S1024x128 .f32) (x3 : Vec F S1024x512 .f32) :
    out0_A_5 c i a1 h1 a2 h2 a3 h3 a4 h4 a5 h5 a6 h6 a7 h7 a8 h8 a9 h9 hc x0 x1 x2 x3 = blockAb x0 (wcat x1 x2 x3) := by
  unfold out0_A_5
  rw [View.read_writes_eq_canon _ _ _ (cover0_A_5 c i a1 h1 a2 h2 a3 h3 a4 h4 a5 h5 a6 h6 a7 h7 a8 h8 a9 h9 hc x0 x1 x2 x3)]
  unfold kernelRun0_A
  dsimp only
  sl_unfold_words
  rw [View.canon_unit_zero hz3]
  simp only [View.readAt_eq_ld, h1.read_unread, h2.read_unread, h3.read_unread, h4.read_unread,
    View.ld_unit_zero (S := S32x84) hz2, View.ld_unit_zero (S := S1024x128) hz2, View.ld_unit_zero (S := S1024x512) hz2]
  exact congrArg (blockAb x0) (readCov_whole _ _)

/-- At the first grid step the item block stored is `blockIt` of the token rows and of the weights just laid out. -/
theorem outA_6 (c : Dev nD) (i : grid0.Coords) (a1 : Memref sig .tc .vmem S32x84 .i32) (h1 : a1.IsWhole) (a2 : Memref sig .tc .vmem S1024x128 .f32) (h2 : a2.IsWhole) (a3 : Memref sig .tc .vmem S1024x128 .f32) (h3 : a3.IsWhole) (a4 : Memref sig .tc .vmem S1024x512 .f32) (h4 : a4.IsWhole) (a5 : Memref sig .tc .vmem S12x32x1024 .f32) (h5 : a5.IsWhole) (a6 : Memref sig .tc .vmem S12x32x128 .f32) (h6 : a6.IsWhole) (a7 : Memref sig .tc .vmem S12x32x128 .f32) (h7 : a7.IsWhole) (a8 : Memref sig .tc .vmem S12x32x512 .f32) (h8 : a8.IsWhole) (a9 : Memref sig .tc .vmem S1024x768 .bf16) (h9 : a9.IsWhole) (hc : cond0_0 i)
    (x0 : Vec F S32x84 .i32) (x1 : Vec F S1024x128 .f32) (x2 : Vec F S1024x128 .f32) (x3 : Vec F S1024x512 .f32) :
    out0_A_6 c i a1 h1 a2 h2 a3 h3 a4 h4 a5 h5 a6 h6 a7 h7 a8 h8 a9 h9 hc x0 x1 x2 x3 = blockIt x0 (wcat x1 x2 x3) := by
  unfold out0_A_6
  rw [View.read_writes_eq_canon _ _ _ (cover0_A_6 c i a1 h1 a2 h2 a3 h3 a4 h4 a5 h5 a6 h6 a7 h7 a8 h8 a9 h9 hc x0 x1 x2 x3)]
  unfold kernelRun0_A
  dsimp only
  sl_unfold_words
  rw [View.canon_unit_zero hz3]
  simp only [View.readAt_eq_ld, h1.read_unread, h2.read_unread, h3.read_unread, h4.read_unread,
    View.ld_unit_zero (S := S32x84) hz2, View.ld_unit_zero (S := S1024x128) hz2, View.ld_unit_zero (S := S1024x512) hz2]
  exact congrArg (blockIt x0) (readCov_whole _ _)

/-- At the first grid step the move block stored is `blockMv` of the token rows and of the weights just laid out. -/
theorem outA_7 (c : Dev nD) (i : grid0.Coords) (a1 : Memref sig .tc .vmem S32x84 .i32) (h1 : a1.IsWhole) (a2 : Memref sig .tc .vmem S1024x128 .f32) (h2 : a2.IsWhole) (a3 : Memref sig .tc .vmem S1024x128 .f32) (h3 : a3.IsWhole) (a4 : Memref sig .tc .vmem S1024x512 .f32) (h4 : a4.IsWhole) (a5 : Memref sig .tc .vmem S12x32x1024 .f32) (h5 : a5.IsWhole) (a6 : Memref sig .tc .vmem S12x32x128 .f32) (h6 : a6.IsWhole) (a7 : Memref sig .tc .vmem S12x32x128 .f32) (h7 : a7.IsWhole) (a8 : Memref sig .tc .vmem S12x32x512 .f32) (h8 : a8.IsWhole) (a9 : Memref sig .tc .vmem S1024x768 .bf16) (h9 : a9.IsWhole) (hc : cond0_0 i)
    (x0 : Vec F S32x84 .i32) (x1 : Vec F S1024x128 .f32) (x2 : Vec F S1024x128 .f32) (x3 : Vec F S1024x512 .f32) :
    out0_A_7 c i a1 h1 a2 h2 a3 h3 a4 h4 a5 h5 a6 h6 a7 h7 a8 h8 a9 h9 hc x0 x1 x2 x3 = blockMv x0 (wcat x1 x2 x3) := by
  unfold out0_A_7
  rw [View.read_writes_eq_canon _ _ _ (cover0_A_7 c i a1 h1 a2 h2 a3 h3 a4 h4 a5 h5 a6 h6 a7 h7 a8 h8 a9 h9 hc x0 x1 x2 x3)]
  unfold kernelRun0_A
  dsimp only
  sl_unfold_words
  rw [View.canon_unit_zero hz3]
  simp only [View.readAt_eq_ld, h1.read_unread, h2.read_unread, h3.read_unread, h4.read_unread,
    View.ld_unit_zero (S := S32x84) hz2, View.ld_unit_zero (S := S1024x128) hz2, View.ld_unit_zero (S := S1024x512) hz2]
  exact congrArg (blockMv x0) (readCov_whole _ _)

/-- The first grid step leaves the concatenated weights in the scratch. -/
theorem soutA (c : Dev nD) (i : grid0.Coords) (a1 : Memref sig .tc .vmem S32x84 .i32) (h1 : a1.IsWhole) (a2 : Memref sig .tc .vmem S1024x128 .f32) (h2 : a2.IsWhole) (a3 : Memref sig .tc .vmem S1024x128 .f32) (h3 : a3.IsWhole) (a4 : Memref sig .tc .vmem S1024x512 .f32) (h4 : a4.IsWhole) (a5 : Memref sig .tc .vmem S12x32x1024 .f32) (h5 : a5.IsWhole) (a6 : Memref sig .tc .vmem S12x32x128 .f32) (h6 : a6.IsWhole) (a7 : Memref sig .tc .vmem S12x32x128 .f32) (h7 : a7.IsWhole) (a8 : Memref sig .tc .vmem S12x32x512 .f32) (h8 : a8.IsWhole) (a9 : Memref sig .tc .vmem S1024x768 .bf16) (h9 : a9.IsWhole) (hc : cond0_0 i)
    (x0 : Vec F S32x84 .i32) (x1 : Vec F S1024x128 .f32) (x2 : Vec F S1024x128 .f32) (x3 : Vec F S1024x512 .f32) :
    sout0_A_0 c i a1 h1 a2 h2 a3 h3 a4 h4 a5 h5 a6 h6 a7 h7 a8 h8 a9 h9 hc x0 x1 x2 x3 = wcat x1 x2 x3 := by
  unfold sout0_A_0
  rw [View.read_writes_eq_canon _ _ _ (scover0_A_0 c i a1 h1 a2 h2 a3 h3 a4 h4 a5 h5 a6 h6 a7 h7 a8 h8 a9 h9 hc x0 x1 x2 x3)]
  unfold kernelRun0_A
  dsimp only
  sl_unfold_words
  simp only [View.readAt_eq_ld, h2.read_unread, h3.read_unread, h4.read_unread,
    View.ld_unit_zero (S := S1024x128) hz2, View.ld_unit_zero (S := S1024x512) hz2]
  rfl

variable (m : (ℓ : Loc nD τ sig) → Buf (Elt F) ℓ)

/-- The first grid step. -/
abbrev t0 : Fin cfg0.N := ⟨0, by rw [show cfg0.N = 32 from N_0]; decide⟩

/-- The concatenated weights as the first grid step finds them. -/
def weights (c : Dev nD) : Vec F S1024x768 .bf16 := wcat (iblk m c 1 t0) (iblk m c 2 t0) (iblk m c 3 t0)

/-- The first grid step leaves the concatenated weights in the scratch. -/
theorem scratch_zero (c : Dev nD) : (outsAt0 m c t0.val t0.isLt).2.2.2.2 = weights m c := by
  rw [outsAt0_A m c t0 rfl]
  dsimp only
  rw [soutA]
  rfl

/-- After every grid step the scratch holds the concatenated weights the first one laid out. -/
theorem scratch_eq (c : Dev nD) : ∀ (n : ℕ) (h : n < cfg0.N), (outsAt0 m c n h).2.2.2.2 = weights m c
  | 0, h => scratch_zero m c
  | n + 1, h => by
    have hN : cfg0.N = 32 := N_0
    have hB : ¬(⟨n + 1, h⟩ : Fin cfg0.N).val % 32 = 0 := by dsimp only; omega
    have e := outsAt0_B m c ⟨n + 1, h⟩ hB
    dsimp only at e
    rw [e]
    exact scratch_eq c n (Nat.lt_of_succ_lt h)

/-- The species block after grid step `t`. -/
theorem outs_4 (c : Dev nD) (t : Fin cfg0.N) :
    (outsAt0 m c t.val t.isLt).1 = blockSp (iblk m c 0 t) := by
  have hN : cfg0.N = 32 := N_0
  by_cases h0 : t.val % 32 = 0
  · have ht : t = t0 := Fin.ext (by have := t.isLt; show t.val = 0; omega)
    rw [outsAt0_A m c t h0]
    dsimp only
    rw [outA_4, ht]
    try rfl
  · rw [outsAt0_B m c t h0]
    dsimp only
    rw [outB_4]

/-- The ability block after grid step `t`. -/
theorem outs_5 (c : Dev nD) (t : Fin cfg0.N) :
    (outsAt0 m c t.val t.isLt).2.1 = blockAb (iblk m c 0 t) (weights m c) := by
  have hN : cfg0.N = 32 := N_0
  by_cases h0 : t.val % 32 = 0
  · have ht : t = t0 := Fin.ext (by have := t.isLt; show t.val = 0; omega)
    rw [outsAt0_A m c t h0]
    dsimp only
    rw [outA_5, ht]
    try rfl
  · rw [outsAt0_B m c t h0]
    dsimp only
    rw [outB_5]; rw [scratch_eq]

/-- The item block after grid step `t`. -/
theorem outs_6 (c : Dev nD) (t : Fin cfg0.N) :
    (outsAt0 m c t.val t.isLt).2.2.1 = blockIt (iblk m c 0 t) (weights m c) := by
  have hN : cfg0.N = 32 := N_0
  by_cases h0 : t.val % 32 = 0
  · have ht : t = t0 := Fin.ext (by have := t.isLt; show t.val = 0; omega)
    rw [outsAt0_A m c t h0]
    dsimp only
    rw [outA_6, ht]
    try rfl
  · rw [outsAt0_B m c t h0]
    dsimp only
    rw [outB_6]; rw [scratch_eq]

/-- The move block after grid step `t`. -/
theorem outs_7 (c : Dev nD) (t : Fin cfg0.N) :
    (outsAt0 m c t.val t.isLt).2.2.2.1 = blockMv (iblk m c 0 t) (weights m c) := by
  have hN : cfg0.N = 32 := N_0
  by_cases h0 : t.val % 32 = 0
  · have ht : t = t0 := Fin.ext (by have := t.isLt; show t.val = 0; omega)
    rw [outsAt0_A m c t h0]
    dsimp only
    rw [outA_7, ht]
    try rfl
  · rw [outsAt0_B m c t h0]
    dsimp only
    rw [outB_7]; rw [scratch_eq]

end Cert.KernelIdeal.Blk

end
-- ==== Proof.Arrays.lean ====
/-
  The four arrays the kernel's grid leaves: entry (n, b, s) of each is entry (n, b mod 32, s) of the block of
  grid step b / 32, whose token rows are rows 32 (b / 32) … of the concatenated token array.
-/
module

public import proofs.«01_k».proof.Proof.Block

@[expose] public section

set_option maxRecDepth 16384

noncomputable section

namespace Cert.KernelIdeal.Arr

open Cert.KernelIdeal Cert.KernelIdeal.Gen Cert.KernelIdeal.Blk Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The grid step that holds row `b`. -/
abbrev pt (b : Fin 1024) : Fin cfg0.N := ⟨b.val / 32, by rw [show cfg0.N = 32 from N_0]; have := b.isLt; omega⟩
/-- The place of row `b` in its grid step's block. -/
abbrev lane (b : Fin 1024) : Fin 32 := ⟨b.val % 32, Nat.mod_lt _ (by decide)⟩

theorem pt_eq (b : Fin 1024) (t : Fin cfg0.N) (r : Fin 32) (h : b.val = 32 * t.val + r.val) : pt b = t ∧ lane b = r := by
  have := r.isLt
  exact ⟨Fin.ext (by show b.val / 32 = t.val; omega), Fin.ext (by show b.val % 32 = r.val; omega)⟩

/-- The block of token rows at step `t` reads rows 32 t … of the concatenated tokens. -/
theorem iblk0_apply (c : Dev nD) (t : Fin cfg0.N) (r : Fin 32) (k : Fin 84) (b : Fin 1024) (hb : b.val = 32 * t.val + r.val) :
    (iblk m c 0 t : Vec F S32x84 .i32) (ValueIdx.ix2 r k) = (V m c main_v8 : (⟨S1024x84, .i32⟩ : BufTy).Contents (Elt F)) (ValueIdx.ix2 b k) := by
  have hi : ∀ t : Fin cfg0.N, win0_0.index t 0 = t.val ∧ win0_0.index t 1 = 0 := by decide +kernel
  unfold iblk
  rw [View.read_apply]
  show V m c main_v8 _ = V m c main_v8 _
  congr 1
  funext a
  apply Fin.ext
  match a with
  | ⟨0, _⟩ => show win0_0.index t 0 * 32 + 1 * r.val = b.val; rw [(hi t).1]; omega
  | ⟨1, _⟩ => show win0_0.index t 1 * 84 + 1 * k.val = k.val; rw [(hi t).2]; omega

/-- The weight block of window 1 is its whole array. -/
theorem iblk1_apply (c : Dev nD) (s : Fin 1024) (k : Fin 128) :
    (iblk m c 1 t0 : Vec F S1024x128 .f32) (ValueIdx.ix2 s k) = (V m c main_arg5 : (⟨S1024x128, .f32⟩ : BufTy).Contents (Elt F)) (ValueIdx.ix2 s k) := by
  have hi : ∀ t : Fin cfg0.N, win0_1.index t 0 = 0 ∧ win0_1.index t 1 = 0 := by decide +kernel
  unfold iblk
  rw [View.read_apply]
  show V m c main_arg5 _ = V m c main_arg5 _
  congr 1
  funext a
  apply Fin.ext
  match a with
  | ⟨0, _⟩ => show win0_1.index t0 0 * 1024 + 1 * s.val = s.val; rw [(hi t0).1]; omega
  | ⟨1, _⟩ => show win0_1.index t0 1 * 128 + 1 * k.val = k.val; rw [(hi t0).2]; omega

/-- The weight block of window 2 is its whole array. -/
theorem iblk2_apply (c : Dev nD) (s : Fin 1024) (k : Fin 128) :
    (iblk m c 2 t0 : Vec F S1024x128 .f32) (ValueIdx.ix2 s k) = (V m c main_arg7 : (⟨S1024x128, .f32⟩ : BufTy).Contents (Elt F)) (ValueIdx.ix2 s k) := by
  have hi : ∀ t : Fin cfg0.N, win0_2.index t 0 = 0 ∧ win0_2.index t 1 = 0 := by decide +kernel
  unfold iblk
  rw [View.read_apply]
  show V m c main_arg7 _ = V m c main_arg7 _
  congr 1
  funext a
  apply Fin.ext
  match a with
  | ⟨0, _⟩ => show win0_2.index t0 0 * 1024 + 1 * s.val = s.val; rw [(hi t0).1]; omega
  | ⟨1, _⟩ => show win0_2.index t0 1 * 128 + 1 * k.val = k.val; rw [(hi t0).2]; omega

/-- The weight block of window 3 is its whole array. -/
theorem iblk3_apply (c : Dev nD) (s : Fin 1024) (k : Fin 512) :
    (iblk m c 3 t0 : Vec F S1024x512 .f32) (ValueIdx.ix2 s k) = (V m c main_arg9 : (⟨S1024x512, .f32⟩ : BufTy).Contents (Elt F)) (ValueIdx.ix2 s k) := by
  have hi : ∀ t : Fin cfg0.N, win0_3.index t 0 = 0 ∧ win0_3.index t 1 = 0 := by decide +kernel
  unfold iblk
  rw [View.read_apply]
  show V m c main_arg9 _ = V m c main_arg9 _
  congr 1
  funext a
  apply Fin.ext
  match a with
  | ⟨0, _⟩ => show win0_3.index t0 0 * 1024 + 1 * s.val = s.val; rw [(hi t0).1]; omega
  | ⟨1, _⟩ => show win0_3.index t0 1 * 512 + 1 * k.val = k.val; rw [(hi t0).2]; omega

/-- The species array: each row from its grid step's block. -/
def arr4 (c : Dev nD) : (⟨S12x1024x1024, .f32⟩ : BufTy).Contents (Elt F) := fun i =>
  blockSp (iblk m c 0 (pt (i 1))) (ValueIdx.ix3 (i 0) (lane (i 1)) (i 2))

theorem idx4 : ∀ t : Fin cfg0.N, win0_4.index t 0 = 0 ∧ win0_4.index t 1 = t.val ∧ win0_4.index t 2 = 0 := by decide +kernel

/-- Every grid step writes its block of the species array back. -/
theorem flushed4 (c : Dev nD) (t : Fin cfg0.N) :
    (dats m 0 c).flushed 4 t = ((cfg0.win 4).blk t).view.read (Elt F) (arr4 m c : Buf (Elt F) ((c : Thread nD τ).loc main_v9_0)) := by
  show (cfg0.win 4).cut (grid0.coords t) ((dats m 0 c).after 4 t) = _
  rw [after0_4, outs_4]
  funext j
  rw [View.read_apply]
  have hN : cfg0.N = 32 := N_0
  have ht := t.isLt
  have hj0 : (j 0).val < 12 := (j 0).isLt
  have hj1 : (j 1).val < 32 := (j 1).isLt
  have hj2 : (j 2).val < 1024 := (j 2).isLt
  have e : ((cfg0.win 4).blk t).view.emb j = (ValueIdx.ix3 (n0 := 12) (n1 := 1024) (n2 := 1024) ⟨(j 0).val, hj0⟩ ⟨32 * t.val + (j 1).val, by omega⟩ ⟨(j 2).val, hj2⟩ : S12x1024x1024.Idx) := by
    funext a
    apply Fin.ext
    match a with
    | ⟨0, _⟩ => show win0_4.index t 0 * 12 + 1 * (j 0).val = (j 0).val; rw [(idx4 t).1]; omega
    | ⟨1, _⟩ => show win0_4.index t 1 * 32 + 1 * (j 1).val = 32 * t.val + (j 1).val; rw [(idx4 t).2.1]; omega
    | ⟨2, _⟩ => show win0_4.index t 2 * 1024 + 1 * (j 2).val = (j 2).val; rw [(idx4 t).2.2]; omega
  rw [e]
  obtain ⟨hp, hl⟩ := pt_eq ⟨32 * t.val + (j 1).val, by omega⟩ t ⟨(j 1).val, hj1⟩ rfl
  show blockSp (iblk m c 0 t) _ = blockSp (iblk m c 0 (pt ⟨32 * t.val + (j 1).val, _⟩)) (ValueIdx.ix3 _ (lane ⟨32 * t.val + (j 1).val, _⟩) _)
  rw [hp, hl]
  congr 1
  funext a
  match a with
  | ⟨0, _⟩ => rfl
  | ⟨1, _⟩ => rfl
  | ⟨2, _⟩ => rfl

/-- So the species array ends holding `arr4`. -/
theorem final4 (c : Dev nD) : (dats m 0 c).arrAt 4 cfg0.N = (arr4 m c : Buf (Elt F) ((c : Thread nD τ).loc main_v9_0)) :=
  (dats m 0 c).arrAt_eq_of_cover 4 (arr4 m c) (fun t _ => flushed4 m c t) fun i =>
    ⟨pt (i 1), flush0_4 _, by
      show i ∈ ((View.whole main_v9_0).slice (win0_4.rect (pt (i 1)))).set
      rw [View.set_slice_whole, Rect.mem_set_unit]
      intro a
      have h0 : (i 0 : Nat) < 12 := (i 0).isLt
      have h1 : (i 1 : Nat) < 1024 := (i 1).isLt
      have h2 : (i 2 : Nat) < 1024 := (i 2).isLt
      have hi := idx4 (pt (i 1))
      match a with
      | ⟨0, _⟩ => show win0_4.index (pt (i 1)) 0 * 12 ≤ (i 0 : Nat) ∧ (i 0 : Nat) < win0_4.index (pt (i 1)) 0 * 12 + 12
                  rw [hi.1]; omega
      | ⟨1, _⟩ => show win0_4.index (pt (i 1)) 1 * 32 ≤ (i 1 : Nat) ∧ (i 1 : Nat) < win0_4.index (pt (i 1)) 1 * 32 + 32
                  rw [hi.2.1]; show (i 1 : Nat) / 32 * 32 ≤ (i 1 : Nat) ∧ (i 1 : Nat) < (i 1 : Nat) / 32 * 32 + 32; omega
      | ⟨2, _⟩ => show win0_4.index (pt (i 1)) 2 * 1024 ≤ (i 2 : Nat) ∧ (i 2 : Nat) < win0_4.index (pt (i 1)) 2 * 1024 + 1024
                  rw [hi.2.2]; omega⟩

/-- The ability array: each row from its grid step's block. -/
def arr5 (c : Dev nD) : (⟨S12x1024x128, .f32⟩ : BufTy).Contents (Elt F) := fun i =>
  blockAb (iblk m c 0 (pt (i 1))) (weights m c) (ValueIdx.ix3 (i 0) (lane (i 1)) (i 2))

theorem idx5 : ∀ t : Fin cfg0.N, win0_5.index t 0 = 0 ∧ win0_5.index t 1 = t.val ∧ win0_5.index t 2 = 0 := by decide +kernel

/-- Every grid step writes its block of the ability array back. -/
theorem flushed5 (c : Dev nD) (t : Fin cfg0.N) :
    (dats m 0 c).flushed 5 t = ((cfg0.win 5).blk t).view.read (Elt F) (arr5 m c : Buf (Elt F) ((c : Thread nD τ).loc main_v9_1)) := by
  show (cfg0.win 5).cut (grid0.coords t) ((dats m 0 c).after 5 t) = _
  rw [after0_5, outs_5]
  funext j
  rw [View.read_apply]
  have hN : cfg0.N = 32 := N_0
  have ht := t.isLt
  have hj0 : (j 0).val < 12 := (j 0).isLt
  have hj1 : (j 1).val < 32 := (j 1).isLt
  have hj2 : (j 2).val < 128 := (j 2).isLt
  have e : ((cfg0.win 5).blk t).view.emb j = (ValueIdx.ix3 (n0 := 12) (n1 := 1024) (n2 := 128) ⟨(j 0).val, hj0⟩ ⟨32 * t.val + (j 1).val, by omega⟩ ⟨(j 2).val, hj2⟩ : S12x1024x128.Idx) := by
    funext a
    apply Fin.ext
    match a with
    | ⟨0, _⟩ => show win0_5.index t 0 * 12 + 1 * (j 0).val = (j 0).val; rw [(idx5 t).1]; omega
    | ⟨1, _⟩ => show win0_5.index t 1 * 32 + 1 * (j 1).val = 32 * t.val + (j 1).val; rw [(idx5 t).2.1]; omega
    | ⟨2, _⟩ => show win0_5.index t 2 * 128 + 1 * (j 2).val = (j 2).val; rw [(idx5 t).2.2]; omega
  rw [e]
  obtain ⟨hp, hl⟩ := pt_eq ⟨32 * t.val + (j 1).val, by omega⟩ t ⟨(j 1).val, hj1⟩ rfl
  show blockAb (iblk m c 0 t) (weights m c) _ = blockAb (iblk m c 0 (pt ⟨32 * t.val + (j 1).val, _⟩)) (weights m c) (ValueIdx.ix3 _ (lane ⟨32 * t.val + (j 1).val, _⟩) _)
  rw [hp, hl]
  congr 1
  funext a
  match a with
  | ⟨0, _⟩ => rfl
  | ⟨1, _⟩ => rfl
  | ⟨2, _⟩ => rfl

/-- So the ability array ends holding `arr5`. -/
theorem final5 (c : Dev nD) : (dats m 0 c).arrAt 5 cfg0.N = (arr5 m c : Buf (Elt F) ((c : Thread nD τ).loc main_v9_1)) :=
  (dats m 0 c).arrAt_eq_of_cover 5 (arr5 m c) (fun t _ => flushed5 m c t) fun i =>
    ⟨pt (i 1), flush0_5 _, by
      show i ∈ ((View.whole main_v9_1).slice (win0_5.rect (pt (i 1)))).set
      rw [View.set_slice_whole, Rect.mem_set_unit]
      intro a
      have h0 : (i 0 : Nat) < 12 := (i 0).isLt
      have h1 : (i 1 : Nat) < 1024 := (i 1).isLt
      have h2 : (i 2 : Nat) < 128 := (i 2).isLt
      have hi := idx5 (pt (i 1))
      match a with
      | ⟨0, _⟩ => show win0_5.index (pt (i 1)) 0 * 12 ≤ (i 0 : Nat) ∧ (i 0 : Nat) < win0_5.index (pt (i 1)) 0 * 12 + 12
                  rw [hi.1]; omega
      | ⟨1, _⟩ => show win0_5.index (pt (i 1)) 1 * 32 ≤ (i 1 : Nat) ∧ (i 1 : Nat) < win0_5.index (pt (i 1)) 1 * 32 + 32
                  rw [hi.2.1]; show (i 1 : Nat) / 32 * 32 ≤ (i 1 : Nat) ∧ (i 1 : Nat) < (i 1 : Nat) / 32 * 32 + 32; omega
      | ⟨2, _⟩ => show win0_5.index (pt (i 1)) 2 * 128 ≤ (i 2 : Nat) ∧ (i 2 : Nat) < win0_5.index (pt (i 1)) 2 * 128 + 128
                  rw [hi.2.2]; omega⟩

/-- The item array: each row from its grid step's block. -/
def arr6 (c : Dev nD) : (⟨S12x1024x128, .f32⟩ : BufTy).Contents (Elt F) := fun i =>
  blockIt (iblk m c 0 (pt (i 1))) (weights m c) (ValueIdx.ix3 (i 0) (lane (i 1)) (i 2))

theorem idx6 : ∀ t : Fin cfg0.N, win0_6.index t 0 = 0 ∧ win0_6.index t 1 = t.val ∧ win0_6.index t 2 = 0 := by decide +kernel

/-- Every grid step writes its block of the item array back. -/
theorem flushed6 (c : Dev nD) (t : Fin cfg0.N) :
    (dats m 0 c).flushed 6 t = ((cfg0.win 6).blk t).view.read (Elt F) (arr6 m c : Buf (Elt F) ((c : Thread nD τ).loc main_v9_2)) := by
  show (cfg0.win 6).cut (grid0.coords t) ((dats m 0 c).after 6 t) = _
  rw [after0_6, outs_6]
  funext j
  rw [View.read_apply]
  have hN : cfg0.N = 32 := N_0
  have ht := t.isLt
  have hj0 : (j 0).val < 12 := (j 0).isLt
  have hj1 : (j 1).val < 32 := (j 1).isLt
  have hj2 : (j 2).val < 128 := (j 2).isLt
  have e : ((cfg0.win 6).blk t).view.emb j = (ValueIdx.ix3 (n0 := 12) (n1 := 1024) (n2 := 128) ⟨(j 0).val, hj0⟩ ⟨32 * t.val + (j 1).val, by omega⟩ ⟨(j 2).val, hj2⟩ : S12x1024x128.Idx) := by
    funext a
    apply Fin.ext
    match a with
    | ⟨0, _⟩ => show win0_6.index t 0 * 12 + 1 * (j 0).val = (j 0).val; rw [(idx6 t).1]; omega
    | ⟨1, _⟩ => show win0_6.index t 1 * 32 + 1 * (j 1).val = 32 * t.val + (j 1).val; rw [(idx6 t).2.1]; omega
    | ⟨2, _⟩ => show win0_6.index t 2 * 128 + 1 * (j 2).val = (j 2).val; rw [(idx6 t).2.2]; omega
  rw [e]
  obtain ⟨hp, hl⟩ := pt_eq ⟨32 * t.val + (j 1).val, by omega⟩ t ⟨(j 1).val, hj1⟩ rfl
  show blockIt (iblk m c 0 t) (weights m c) _ = blockIt (iblk m c 0 (pt ⟨32 * t.val + (j 1).val, _⟩)) (weights m c) (ValueIdx.ix3 _ (lane ⟨32 * t.val + (j 1).val, _⟩) _)
  rw [hp, hl]
  congr 1
  funext a
  match a with
  | ⟨0, _⟩ => rfl
  | ⟨1, _⟩ => rfl
  | ⟨2, _⟩ => rfl

/-- So the item array ends holding `arr6`. -/
theorem final6 (c : Dev nD) : (dats m 0 c).arrAt 6 cfg0.N = (arr6 m c : Buf (Elt F) ((c : Thread nD τ).loc main_v9_2)) :=
  (dats m 0 c).arrAt_eq_of_cover 6 (arr6 m c) (fun t _ => flushed6 m c t) fun i =>
    ⟨pt (i 1), flush0_6 _, by
      show i ∈ ((View.whole main_v9_2).slice (win0_6.rect (pt (i 1)))).set
      rw [View.set_slice_whole, Rect.mem_set_unit]
      intro a
      have h0 : (i 0 : Nat) < 12 := (i 0).isLt
      have h1 : (i 1 : Nat) < 1024 := (i 1).isLt
      have h2 : (i 2 : Nat) < 128 := (i 2).isLt
      have hi := idx6 (pt (i 1))
      match a with
      | ⟨0, _⟩ => show win0_6.index (pt (i 1)) 0 * 12 ≤ (i 0 : Nat) ∧ (i 0 : Nat) < win0_6.index (pt (i 1)) 0 * 12 + 12
                  rw [hi.1]; omega
      | ⟨1, _⟩ => show win0_6.index (pt (i 1)) 1 * 32 ≤ (i 1 : Nat) ∧ (i 1 : Nat) < win0_6.index (pt (i 1)) 1 * 32 + 32
                  rw [hi.2.1]; show (i 1 : Nat) / 32 * 32 ≤ (i 1 : Nat) ∧ (i 1 : Nat) < (i 1 : Nat) / 32 * 32 + 32; omega
      | ⟨2, _⟩ => show win0_6.index (pt (i 1)) 2 * 128 ≤ (i 2 : Nat) ∧ (i 2 : Nat) < win0_6.index (pt (i 1)) 2 * 128 + 128
                  rw [hi.2.2]; omega⟩

/-- The move array: each row from its grid step's block. -/
def arr7 (c : Dev nD) : (⟨S12x1024x512, .f32⟩ : BufTy).Contents (Elt F) := fun i =>
  blockMv (iblk m c 0 (pt (i 1))) (weights m c) (ValueIdx.ix3 (i 0) (lane (i 1)) (i 2))

theorem idx7 : ∀ t : Fin cfg0.N, win0_7.index t 0 = 0 ∧ win0_7.index t 1 = t.val ∧ win0_7.index t 2 = 0 := by decide +kernel

/-- Every grid step writes its block of the move array back. -/
theorem flushed7 (c : Dev nD) (t : Fin cfg0.N) :
    (dats m 0 c).flushed 7 t = ((cfg0.win 7).blk t).view.read (Elt F) (arr7 m c : Buf (Elt F) ((c : Thread nD τ).loc main_v9_3)) := by
  show (cfg0.win 7).cut (grid0.coords t) ((dats m 0 c).after 7 t) = _
  rw [after0_7, outs_7]
  funext j
  rw [View.read_apply]
  have hN : cfg0.N = 32 := N_0
  have ht := t.isLt
  have hj0 : (j 0).val < 12 := (j 0).isLt
  have hj1 : (j 1).val < 32 := (j 1).isLt
  have hj2 : (j 2).val < 512 := (j 2).isLt
  have e : ((cfg0.win 7).blk t).view.emb j = (ValueIdx.ix3 (n0 := 12) (n1 := 1024) (n2 := 512) ⟨(j 0).val, hj0⟩ ⟨32 * t.val + (j 1).val, by omega⟩ ⟨(j 2).val, hj2⟩ : S12x1024x512.Idx) := by
    funext a
    apply Fin.ext
    match a with
    | ⟨0, _⟩ => show win0_7.index t 0 * 12 + 1 * (j 0).val = (j 0).val; rw [(idx7 t).1]; omega
    | ⟨1, _⟩ => show win0_7.index t 1 * 32 + 1 * (j 1).val = 32 * t.val + (j 1).val; rw [(idx7 t).2.1]; omega
    | ⟨2, _⟩ => show win0_7.index t 2 * 512 + 1 * (j 2).val = (j 2).val; rw [(idx7 t).2.2]; omega
  rw [e]
  obtain ⟨hp, hl⟩ := pt_eq ⟨32 * t.val + (j 1).val, by omega⟩ t ⟨(j 1).val, hj1⟩ rfl
  show blockMv (iblk m c 0 t) (weights m c) _ = blockMv (iblk m c 0 (pt ⟨32 * t.val + (j 1).val, _⟩)) (weights m c) (ValueIdx.ix3 _ (lane ⟨32 * t.val + (j 1).val, _⟩) _)
  rw [hp, hl]
  congr 1
  funext a
  match a with
  | ⟨0, _⟩ => rfl
  | ⟨1, _⟩ => rfl
  | ⟨2, _⟩ => rfl

/-- So the move array ends holding `arr7`. -/
theorem final7 (c : Dev nD) : (dats m 0 c).arrAt 7 cfg0.N = (arr7 m c : Buf (Elt F) ((c : Thread nD τ).loc main_v9_3)) :=
  (dats m 0 c).arrAt_eq_of_cover 7 (arr7 m c) (fun t _ => flushed7 m c t) fun i =>
    ⟨pt (i 1), flush0_7 _, by
      show i ∈ ((View.whole main_v9_3).slice (win0_7.rect (pt (i 1)))).set
      rw [View.set_slice_whole, Rect.mem_set_unit]
      intro a
      have h0 : (i 0 : Nat) < 12 := (i 0).isLt
      have h1 : (i 1 : Nat) < 1024 := (i 1).isLt
      have h2 : (i 2 : Nat) < 512 := (i 2).isLt
      have hi := idx7 (pt (i 1))
      match a with
      | ⟨0, _⟩ => show win0_7.index (pt (i 1)) 0 * 12 ≤ (i 0 : Nat) ∧ (i 0 : Nat) < win0_7.index (pt (i 1)) 0 * 12 + 12
                  rw [hi.1]; omega
      | ⟨1, _⟩ => show win0_7.index (pt (i 1)) 1 * 32 ≤ (i 1 : Nat) ∧ (i 1 : Nat) < win0_7.index (pt (i 1)) 1 * 32 + 32
                  rw [hi.2.1]; show (i 1 : Nat) / 32 * 32 ≤ (i 1 : Nat) ∧ (i 1 : Nat) < (i 1 : Nat) / 32 * 32 + 32; omega
      | ⟨2, _⟩ => show win0_7.index (pt (i 1)) 2 * 512 ≤ (i 2 : Nat) ∧ (i 2 : Nat) < win0_7.index (pt (i 1)) 2 * 512 + 512
                  rw [hi.2.2]; omega⟩

end Cert.KernelIdeal.Arr

end
-- ==== Proof.Spec.lean ====
/-
The kernel's arithmetic as plain formulas over the extended reals, for one row of twelve entities. A row is given by
its token words: `σ` the species tokens, `α` the ability tokens, `ι` the item tokens, `μ` the four move tokens.
-/
module

public import Idealize.ShloMosaic.PureOps.Ideal.Laws
public import Idealize.ShloMosaic.Lib.Pointwise

@[expose] public section

noncomputable section

namespace Cert.Spec

open Idealize.ShloMosaic

/-- The entry at column `s` of the one-hot row of token `t`: the comparison of `s` with `t - 1`. -/
def hot (t : BitVec 32) (s : Nat) : EReal :=
  FloatOps.sitofp (F := Ideal) FTy.f32
    (BitVec.setWidth 32 (IntOp.cmpi .eq (BitVec.ofNat 32 s) (IntOp.subi t 1#32)))

/-- The same, with `t - 1` raised to zero when negative. -/
def hotMax (t : BitVec 32) (s : Nat) : EReal :=
  FloatOps.sitofp (F := Ideal) FTy.f32
    (BitVec.setWidth 32 (IntOp.cmpi .eq (BitVec.ofNat 32 s) (IntOp.maxsi (IntOp.subi t 1#32) 0#32)))

/-- Whether a token is positive. -/
def on (t : BitVec 32) : BitVec 1 := IntOp.cmpi .sgt t 0#32

/-- One for a positive token, zero for any other. -/
def onR (t : BitVec 32) : EReal := FloatOps.sitofp (F := Ideal) FTy.f32 (BitVec.setWidth 32 (on t))

/-- One less the number of entities of the row whose species is `s`. -/
def unk (σ : Fin 12 → BitVec 32) (s : Nat) : EReal := 1 - ∑ n, hot (σ n) s

/-- The reciprocal of the number of species left over by the row. -/
def inv (σ : Fin 12 → BitVec 32) : EReal :=
  Ideal.div 1 (max (Ideal.ofBits FTy.f32 1149239296#32 - ∑ n, onR (σ n)) 1)

/-- The species embedding of entity `n`. -/
def spec (σ : Fin 12 → BitVec 32) (n : Fin 12) (s : Nat) : EReal :=
  Scalar.select (on (σ n)) (hot (σ n) s) (unk σ s * inv σ)

/-- The unscaled species embedding of entity `n` times a weight column, scaled afterwards. -/
def row (σ : Fin 12 → BitVec 32) {K : Nat} (w : Fin 1024 → Fin K → EReal) (n : Fin 12) (j : Fin K) : EReal :=
  (∑ s : Fin 1024, Scalar.select (on (σ n)) (hot (σ n) s.val) (unk σ s.val) * w s j)
    * Scalar.select (on (σ n)) 1 (inv σ)

/-- A row divided by its sum, the sum raised to at least one. -/
def share {K : Nat} (x : Fin K → EReal) (j : Fin K) : EReal := Ideal.div (x j) (max (∑ k, x k) 1)

/-- The ability embedding of entity `n`. -/
def abil (σ α : Fin 12 → BitVec 32) (w : Fin 1024 → Fin 128 → EReal) (n : Fin 12) (j : Fin 128) : EReal :=
  Scalar.select (on (α n)) (hot (α n) j.val) (share (row σ w n) j)

/-- The item embedding of entity `n`. -/
def item (σ α ι : Fin 12 → BitVec 32) (w : Fin 1024 → Fin 128 → EReal) (n : Fin 12) (j : Fin 128) : EReal :=
  Scalar.select (on (α n)) (hotMax (ι n) j.val) (share (row σ w n) j)

/-- The known moves of an entity, from its four tokens. -/
def km (t0 t1 t2 t3 : BitVec 32) (j : Nat) : EReal := hot t0 j + hot t1 j + hot t2 j + hot t3 j

/-- The sum of the four move tokens. -/
def msum (t0 t1 t2 t3 : BitVec 32) : BitVec 32 := IntOp.addi (IntOp.addi (IntOp.addi (IntOp.addi 0#32 t0) t1) t2) t3

/-- The move embedding of entity `n`. -/
def moves (σ : Fin 12 → BitVec 32) (μ : Fin 4 → Fin 12 → BitVec 32) (w : Fin 1024 → Fin 512 → EReal) (n : Fin 12)
    (j : Fin 512) : EReal :=
  Scalar.select
    (IntOp.andi (on (σ n)) (IntOp.cmpi .ne (msum (μ 0 n) (μ 1 n) (μ 2 n) (μ 3 n)) 0#32))
    (km (μ 0 n) (μ 1 n) (μ 2 n) (μ 3 n) j.val
      + (Ideal.ofBits FTy.f32 0x40800000#32
          - ∑ k : Fin 512, FloatOps.sitofp (F := Ideal) FTy.f32
              (BitVec.setWidth 32 (Scalar.cmpf (F := Ideal) (φ := .f32) .ogt (km (μ 0 n) (μ 1 n) (μ 2 n) (μ 3 n) k.val) 0)))
        * share (fun k => row σ w n k - km (μ 0 n) (μ 1 n) (μ 2 n) (μ 3 n) k.val) j)
    (Ideal.ofBits FTy.f32 0x40800000#32
      * share (fun k => row σ w n k - km (μ 0 n) (μ 1 n) (μ 2 n) (μ 3 n) k.val) j)

end Cert.Spec

end
-- ==== Proof.Values.lean ====
module

public import proofs.«01_k».proof.Proof.Arrays
public import proofs.«01_k».proof.Proof.Spec

@[expose] public section

set_option maxRecDepth 16384

noncomputable section

namespace Cert.KernelIdeal.Blk

open Cert.KernelIdeal Cert.KernelIdeal.Gen Idealize.ShloMosaic Idealize.ShloMosaic.TcCoe Idealize.SL.Sem
open Cert.Spec

section
variable {F : FTy → Type} [FloatOps F]

/-- The token in column `12 * q + n` of row `r` of a block of token rows. -/
def tok (x0 : Vec F S32x84 .i32) (q : Fin 7) (r : Fin 32) (n : Fin 12) : BitVec 32 :=
  x0 (ix2 r ⟨12 * q.val + n.val, by omega⟩)

theorem planeSp_apply (x0 : Vec F S32x84 .i32) (r : Fin 32) (n : Fin 12) : planeSp x0 (ix3 n r 0) = tok x0 0 r n := by
  pointwise [planeSp, k0_pay6, k0_pay5]
  fin_cases n <;> rfl

theorem planeAb_apply (x0 : Vec F S32x84 .i32) (r : Fin 32) (n : Fin 12) : planeAb x0 (ix3 n r 0) = tok x0 1 r n := by
  pointwise [planeAb, k0_pay5, k0_pay7, k0_pay8, k0_pay9, k0_pay10, k0_pay11, k0_pay12, k0_pay13, k0_pay14, k0_pay15,
    k0_pay16, k0_pay17, k0_pay18, k0_pay19]
  fin_cases n <;> rfl

theorem planeIt_apply (x0 : Vec F S32x84 .i32) (r : Fin 32) (n : Fin 12) : planeIt x0 (ix3 n r 0) = tok x0 2 r n := by
  pointwise [planeIt, k0_pay20, k0_pay5]
  fin_cases n <;> rfl

theorem planeM0_apply (x0 : Vec F S32x84 .i32) (r : Fin 32) (n : Fin 12) :
    k0_pay37 (k0_pay5 x0) (ix3 n r 0) = tok x0 3 r n := by
  pointwise [k0_pay37, k0_pay5]
  fin_cases n <;> rfl

theorem planeM1_apply (x0 : Vec F S32x84 .i32) (r : Fin 32) (n : Fin 12) :
    k0_pay39 (k0_pay5 x0) (ix3 n r 0) = tok x0 4 r n := by
  pointwise [k0_pay39, k0_pay5]
  fin_cases n <;> rfl

/-- The third move tokens of a block as a plane. -/
abbrev planeM2 (x0 : Vec F S32x84 .i32) : IVec S12x32x1 32 :=
  k0_pay54 (k0_pay42 (k0_pay5 x0)) (k0_pay43 (k0_pay5 x0)) (k0_pay44 (k0_pay5 x0)) (k0_pay45 (k0_pay5 x0)) (k0_pay46 (k0_pay5 x0)) (k0_pay47 (k0_pay5 x0)) (k0_pay48 (k0_pay5 x0)) (k0_pay49 (k0_pay5 x0)) (k0_pay50 (k0_pay5 x0)) (k0_pay51 (k0_pay5 x0)) (k0_pay52 (k0_pay5 x0)) (k0_pay53 (k0_pay5 x0))

theorem planeM2_apply (x0 : Vec F S32x84 .i32) (r : Fin 32) (n : Fin 12) :
    planeM2 x0 (ix3 n r 0) = tok x0 5 r n := by
  pointwise [planeM2, k0_pay54, k0_pay5, k0_pay42, k0_pay43, k0_pay44, k0_pay45, k0_pay46, k0_pay47, k0_pay48, k0_pay49,
    k0_pay50, k0_pay51, k0_pay52, k0_pay53]
  fin_cases n <;> rfl

theorem planeM3_apply (x0 : Vec F S32x84 .i32) (r : Fin 32) (n : Fin 12) :
    k0_pay55 (k0_pay5 x0) (ix3 n r 0) = tok x0 6 r n := by
  pointwise [k0_pay55, k0_pay5]
  fin_cases n <;> rfl
end

/-- The columns of the concatenated weights from column `o` on. -/
def colsFrom (W : Vec Ideal S1024x768 .bf16) (K o : Nat) (h : K + o ≤ 768) (s : Fin 1024) (j : Fin K) : EReal :=
  W (ix2 s ⟨o + j.val, by omega⟩)

theorem colsFrom_zero (W : Vec Ideal S1024x768 .bf16) (K : Nat) (h : K + 0 ≤ 768) :
    colsFrom W K 0 h = fun s j => W (ix2 s ⟨j.val, by omega⟩) := by
  funext s j
  simp only [colsFrom, Nat.zero_add]

theorem blockSp_apply (x0 : Vec Ideal S32x84 .i32) (r : Fin 32) (n : Fin 12) (s : Fin 1024) :
    blockSp x0 (ix3 n r s) = spec (tok x0 0 r) n s.val := by
  pointwise [blockSp, k0_pay27, k0_pay21, k0_pay25, k0_pay26, k0_pay24, k0_pay23, k0_pay22]
  simp only [planeSp_apply]
  rfl

theorem blockAb_apply (x0 : Vec Ideal S32x84 .i32) (W) (r : Fin 32) (n : Fin 12) (j : Fin 128) :
    blockAb x0 W (ix3 n r j) = abil (tok x0 0 r) (tok x0 1 r) (colsFrom W 128 0 (by decide)) n j := by
  pointwise [blockAb, k0_pay32, k0_pay31, k0_pay28, k0_pay21, k0_pay25, k0_pay26, k0_pay24, k0_pay23, k0_pay22]
  simp only [planeSp_apply, planeAb_apply]
  rw [colsFrom_zero]
  rfl

theorem blockIt_apply (x0 : Vec Ideal S32x84 .i32) (W) (r : Fin 32) (n : Fin 12) (j : Fin 128) :
    blockIt x0 W (ix3 n r j)
      = item (tok x0 0 r) (tok x0 1 r) (tok x0 2 r) (colsFrom W 128 128 (by decide)) n j := by
  pointwise [blockIt, k0_pay34, k0_pay33, k0_pay29, k0_pay31, k0_pay28, k0_pay21, k0_pay25, k0_pay26, k0_pay24, k0_pay23,
    k0_pay22]
  simp only [planeSp_apply, planeAb_apply, planeIt_apply]
  rfl

theorem blockMv_apply (x0 : Vec Ideal S32x84 .i32) (W) (r : Fin 32) (n : Fin 12) (j : Fin 512) :
    blockMv x0 W (ix3 n r j)
      = moves (tok x0 0 r) ![tok x0 3 r, tok x0 4 r, tok x0 5 r, tok x0 6 r] (colsFrom W 512 256 (by decide)) n j := by
  pointwise [blockMv, k0_pay1, k0_pay56, k0_pay57, k0_pay58, k0_pay59, k0_pay40, k0_pay41, k0_pay38, k0_pay35, k0_pay36,
    k0_pay30, k0_pay28, k0_pay21, k0_pay25, k0_pay26, k0_pay24, k0_pay23, k0_pay22]
  simp only [planeSp_apply, planeM0_apply, planeM1_apply, planeM2_apply, planeM3_apply]
  rfl

end Cert.KernelIdeal.Blk

end
-- ==== Proof.Result.lean ====
/-
What the kernel's run leaves: the four results at an index, as the formulas of `Spec` of the token words and of the
weights it was launched with.
-/
module

public import proofs.«01_k».proof.Proof.Values

@[expose] public section

set_option maxRecDepth 16384

noncomputable section

namespace Cert.KernelIdeal.Result

open Cert.KernelIdeal Cert.KernelIdeal.Gen Cert.KernelIdeal.Blk Cert.KernelIdeal.Arr
open Idealize.ShloMosaic Idealize.ShloMosaic.TcCoe Idealize.SL.Sem Cert.Spec

variable (m : (ℓ : Loc nD τ sig) → Buf (Elt Ideal) ℓ) (ρ : Dev nD → PrngReg)

/-! ## The arguments -/

/-- The species tokens. -/
def aSp (c : Dev nD) : S1024x12.Idx → BitVec 32 := m ((c : Thread nD τ).loc main_arg0)
/-- The ability tokens. -/
def aAb (c : Dev nD) : S1024x12.Idx → BitVec 32 := m ((c : Thread nD τ).loc main_arg1)
/-- The item tokens. -/
def aIt (c : Dev nD) : S1024x12.Idx → BitVec 32 := m ((c : Thread nD τ).loc main_arg2)
/-- The move tokens. -/
def aMv (c : Dev nD) : S1024x12x4.Idx → BitVec 32 := m ((c : Thread nD τ).loc main_arg3)
/-- The ability weights. -/
def wAb (c : Dev nD) : S1024x128.Idx → EReal := m ((c : Thread nD τ).loc main_arg5)
/-- The item weights. -/
def wIt (c : Dev nD) : S1024x128.Idx → EReal := m ((c : Thread nD τ).loc main_arg7)
/-- The move weights. -/
def wMv (c : Dev nD) : S1024x512.Idx → EReal := m ((c : Thread nD τ).loc main_arg9)

/-! ## The token rows -/

/-- The concatenated token array as the grid finds it. -/
theorem V_v8 (c : Dev nD) : (V m c main_v8 : S1024x84.Idx → BitVec 32)
    = concatenate S1024x84 1 [⟨S1024x12, aSp m c⟩, ⟨S1024x12, aAb m c⟩, ⟨S1024x12, aIt m c⟩,
        ⟨S1024x12, shapeCast S1024x12 (extractStridedSlice S1024x12x1 ![0, 0, 0] (aMv m c) slices_S1024x12x4_S1024x12x1_0_0_0) shapeCasts_S1024x12x1_S1024x12⟩,
        ⟨S1024x12, shapeCast S1024x12 (extractStridedSlice S1024x12x1 ![0, 0, 1] (aMv m c) slices_S1024x12x4_S1024x12x1_0_0_1) shapeCasts_S1024x12x1_S1024x12⟩,
        ⟨S1024x12, shapeCast S1024x12 (extractStridedSlice S1024x12x1 ![0, 0, 2] (aMv m c) slices_S1024x12x4_S1024x12x1_0_0_2) shapeCasts_S1024x12x1_S1024x12⟩,
        ⟨S1024x12, shapeCast S1024x12 (extractStridedSlice S1024x12x1 ![0, 0, 3] (aMv m c) slices_S1024x12x4_S1024x12x1_0_0_3) shapeCasts_S1024x12x1_S1024x12⟩]
        concatenates_S1024x12_S1024x12_S1024x12_S1024x12_S1024x12_S1024x12_S1024x12_S1024x84_d1 := by
  show StableHlo.after (hostOps0 : List (HloOp τ sig (Elt Ideal))) (fun b => m (c, b)) (Proc.devRef .tc main_v8) = _
  unfold hostOps0
  after_results
  rfl

theorem v8_apply (c : Dev nD) (q : Fin 7) (b : Fin 1024) (n : Fin 12) :
    (V m c main_v8 : S1024x84.Idx → BitVec 32) (ix2 b ⟨12 * q.val + n.val, by omega⟩)
      = ![aSp m c (ix2 b n), aAb m c (ix2 b n), aIt m c (ix2 b n), aMv m c (ix3 b n 0), aMv m c (ix3 b n 1),
          aMv m c (ix3 b n 2), aMv m c (ix3 b n 3)] q := by
  rw [V_v8]
  pointwise []
  fin_cases q
  all_goals fin_cases n <;> rfl

/-- The tokens in row `b` of a token array. -/
abbrev tokRow (x : S1024x12.Idx → BitVec 32) (b : Fin 1024) : Fin 12 → BitVec 32 := fun n => x (ix2 b n)
/-- The four tokens of each entity in row `b` of the move array. -/
abbrev movRow (x : S1024x12x4.Idx → BitVec 32) (b : Fin 1024) : Fin 4 → Fin 12 → BitVec 32 := fun j n => x (ix3 b n j)

theorem tok_apply (c : Dev nD) (q : Fin 7) (b : Fin 1024) (n : Fin 12) :
    tok (F := Ideal) (iblk m c 0 (pt b)) q (lane b) n
      = ![aSp m c (ix2 b n), aAb m c (ix2 b n), aIt m c (ix2 b n), aMv m c (ix3 b n 0), aMv m c (ix3 b n 1),
          aMv m c (ix3 b n 2), aMv m c (ix3 b n 3)] q := by
  rw [← v8_apply m c q b n]
  unfold tok
  rw [ix2_eq_valueIdx, ix2_eq_valueIdx]
  exact iblk0_apply m c (pt b) (lane b) _ b (by show b.val = 32 * (b.val / 32) + b.val % 32; omega)

theorem tok0 (c : Dev nD) (b : Fin 1024) : tok (F := Ideal) (iblk m c 0 (pt b)) 0 (lane b) = tokRow (aSp m c) b :=
  funext fun n => tok_apply m c 0 b n
theorem tok1 (c : Dev nD) (b : Fin 1024) : tok (F := Ideal) (iblk m c 0 (pt b)) 1 (lane b) = tokRow (aAb m c) b :=
  funext fun n => tok_apply m c 1 b n
theorem tok2 (c : Dev nD) (b : Fin 1024) : tok (F := Ideal) (iblk m c 0 (pt b)) 2 (lane b) = tokRow (aIt m c) b :=
  funext fun n => tok_apply m c 2 b n
theorem tok3456 (c : Dev nD) (b : Fin 1024) :
    ![tok (F := Ideal) (iblk m c 0 (pt b)) 3 (lane b), tok (F := Ideal) (iblk m c 0 (pt b)) 4 (lane b),
      tok (F := Ideal) (iblk m c 0 (pt b)) 5 (lane b), tok (F := Ideal) (iblk m c 0 (pt b)) 6 (lane b)]
      = movRow (aMv m c) b := by
  funext j n
  fin_cases j
  · exact tok_apply m c 3 b n
  · exact tok_apply m c 4 b n
  · exact tok_apply m c 5 b n
  · exact tok_apply m c 6 b n

/-! ## The weights -/

/-- A weight array by its two coordinates. -/
abbrev col {K : Nat} (w : (⟨2, ![1024, K]⟩ : Shape).Idx → EReal) : Fin 1024 → Fin K → EReal := fun s j => w (ix2 s j)

/-- The pieces of the concatenated weights, read through the embeddings of their rectangles. -/
theorem emb_col {K o : Nat} (h) (s : Fin 1024) (j : Fin K) (hj : o + j.val < 768) :
    (Rect.unit (s := S1024x768) ![0, o] ![1024, K] h).emb (ix2 s j : (⟨2, ![1024, K]⟩ : Shape).Idx)
      = (ix2 s ⟨o + j.val, hj⟩ : S1024x768.Idx) := by
  funext a
  fin_cases a
  · exact Fin.ext (show 0 + 1 * s.val = s.val by omega)
  · exact Fin.ext (show o + 1 * j.val = o + j.val by omega)

theorem not_mem_left {K o : Nat} (h) (s : Fin 1024) (j : Fin 768) (hj : j.val < o) :
    (ix2 s j : S1024x768.Idx) ∉ (Rect.unit (s := S1024x768) ![0, o] ![1024, K] h).set := by
  rw [Rect.mem_set_unit]
  intro hh
  have h1 : o ≤ j.val := (hh 1).1
  omega

/-- Columns left of a piece are read from the pieces stored before it. -/
theorem canon_left {K o : Nat} (h) (w : (⟨2, ![1024, K]⟩ : Shape).Idx → EReal)
    (L : List (View.Piece (Elt Ideal) S1024x768 .bf16)) (s : Fin 1024) (j : Fin 768) (hj : j.val < o) :
    View.canon (⟨Rect.unit (s := S1024x768) ![0, o] ![1024, K] h, w⟩ :: L) (ix2 s j)
      = (View.canon L (ix2 s j) : EReal) :=
  View.canon_cons_of_not_mem _ L (not_mem_left h s j hj)

theorem colsFrom_mv (c : Dev nD) : colsFrom (weights m c) 512 256 (by decide) = col (wMv m c) := by
  funext s j
  unfold colsFrom weights wcat
  rw [← emb_col inb_S1024x768_S1024x512_0_256]
  refine (View.canon_cons_emb _ _ _ _).trans ?_
  pointwise [k0_pay4]
  rw [ix2_eq_valueIdx]
  exact (iblk3_apply m c s j).trans (congrFun (V_main_arg9 m c) _)

theorem colsFrom_it (c : Dev nD) : colsFrom (weights m c) 128 128 (by decide) = col (wIt m c) := by
  funext s j
  unfold colsFrom weights wcat
  refine (canon_left (K := 512) (o := 256)
    inb_S1024x768_S1024x512_0_256 _ _ s ⟨128 + j.val, by omega⟩ (by dsimp only; omega)).trans ?_
  rw [← emb_col inb_S1024x768_S1024x128_0_128]
  refine (View.canon_cons_emb _ _ _ _).trans ?_
  pointwise [k0_pay3]
  rw [ix2_eq_valueIdx]
  exact (iblk2_apply m c s j).trans (congrFun (V_main_arg7 m c) _)

theorem colsFrom_ab (c : Dev nD) : colsFrom (weights m c) 128 0 (by decide) = col (wAb m c) := by
  funext s j
  unfold colsFrom weights wcat
  refine (canon_left (K := 512) (o := 256)
    inb_S1024x768_S1024x512_0_256 _ _ s ⟨0 + j.val, by omega⟩ (by dsimp only; omega)).trans ?_
  refine (canon_left (K := 128) (o := 128)
    inb_S1024x768_S1024x128_0_128 _ _ s ⟨0 + j.val, by omega⟩ (by dsimp only; omega)).trans ?_
  rw [← emb_col inb_S1024x768_S1024x128_0_0]
  refine (View.canon_cons_emb _ _ _ _).trans ?_
  pointwise [k0_pay2]
  rw [ix2_eq_valueIdx]
  exact (iblk1_apply m c s j).trans (congrFun (V_main_arg5 m c) _)

/-! ## The results -/

/-- The species result. -/
def r0 (c : Dev nD) : S1024x12x1024.Idx → EReal := fun i => spec (tokRow (aSp m c) (i 0)) (i 1) (i 2).val
/-- The ability result. -/
def r1 (c : Dev nD) : S1024x12x128.Idx → EReal := fun i =>
  abil (tokRow (aSp m c) (i 0)) (tokRow (aAb m c) (i 0)) (col (wAb m c)) (i 1) (i 2)
/-- The item result. -/
def r2 (c : Dev nD) : S1024x12x128.Idx → EReal := fun i =>
  item (tokRow (aSp m c) (i 0)) (tokRow (aAb m c) (i 0)) (tokRow (aIt m c) (i 0)) (col (wIt m c)) (i 1) (i 2)
/-- The move result. -/
def r3 (c : Dev nD) : S1024x12x512.Idx → EReal := fun i =>
  moves (tokRow (aSp m c) (i 0)) (movRow (aMv m c) (i 0)) (col (wMv m c)) (i 1) (i 2)

theorem arr4_apply (c : Dev nD) (n : Fin 12) (b s : Fin 1024) :
    arr4 m c (ix3 n b s) = spec (tokRow (aSp m c) b) n s.val := by
  rw [← tok0]
  refine Eq.trans ?_ (blockSp_apply _ _ _ _)
  rw [ix3_eq_valueIdx]
  rfl

theorem arr5_apply (c : Dev nD) (n : Fin 12) (b : Fin 1024) (j : Fin 128) :
    arr5 m c (ix3 n b j) = abil (tokRow (aSp m c) b) (tokRow (aAb m c) b) (col (wAb m c)) n j := by
  rw [← tok0, ← tok1, ← colsFrom_ab]
  refine Eq.trans ?_ (blockAb_apply _ _ _ _ _)
  rw [ix3_eq_valueIdx]
  rfl

theorem arr6_apply (c : Dev nD) (n : Fin 12) (b : Fin 1024) (j : Fin 128) :
    arr6 m c (ix3 n b j)
      = item (tokRow (aSp m c) b) (tokRow (aAb m c) b) (tokRow (aIt m c) b) (col (wIt m c)) n j := by
  rw [← tok0, ← tok1, ← tok2, ← colsFrom_it]
  refine Eq.trans ?_ (blockIt_apply _ _ _ _ _)
  rw [ix3_eq_valueIdx]
  rfl

theorem arr7_apply (c : Dev nD) (n : Fin 12) (b : Fin 1024) (j : Fin 512) :
    arr7 m c (ix3 n b j) = moves (tokRow (aSp m c) b) (movRow (aMv m c) b) (col (wMv m c)) n j := by
  rw [← tok0, ← tok3456, ← colsFrom_mv]
  refine Eq.trans ?_ (blockMv_apply _ _ _ _ _)
  rw [ix3_eq_valueIdx]
  rfl

/-- Result 1: the transposed array 1 of the grid. -/
theorem tail_v10 (c : Dev nD) :
    (Pipeline.afterTail₀ cfgs (dats m) 0 (V0 m) [hostOps1] c main_v10 : S1024x12x1024.Idx → EReal) = r0 m c := by
  show StableHlo.after (hostOps1 : List (HloOp τ sig (Elt Ideal))) _ (Proc.devRef .tc main_v10) = _
  unfold hostOps1
  after_results
  have e : Pipeline.withArrays (cfgs 0).spec c (V0 m c) (fun w => (dats m 0 c).arrAt w (cfgs 0).N)
      (Proc.tc.devRef main_v9_0) = arr4 m c :=
    (Pipeline.withArrays_arr spec0 launch0.win.arr_inj c (V0 m c) (fun w => (dats m 0 c).arrAt w (cfgs 0).N) 4).trans
      (final4 m c)
  rw [e]
  funext i
  obtain ⟨b, n, j, rfl⟩ : ∃ b n j, i = ix3 b n j := ⟨_, _, _, eq_ix3 i⟩
  pointwise []
  rw [arr4_apply]
  rfl

/-- Result 2: the transposed array 2 of the grid. -/
theorem tail_v11 (c : Dev nD) :
    (Pipeline.afterTail₀ cfgs (dats m) 0 (V0 m) [hostOps1] c main_v11 : S1024x12x128.Idx → EReal) = r1 m c := by
  show StableHlo.after (hostOps1 : List (HloOp τ sig (Elt Ideal))) _ (Proc.devRef .tc main_v11) = _
  unfold hostOps1
  after_results
  have e : Pipeline.withArrays (cfgs 0).spec c (V0 m c) (fun w => (dats m 0 c).arrAt w (cfgs 0).N)
      (Proc.tc.devRef main_v9_1) = arr5 m c :=
    (Pipeline.withArrays_arr spec0 launch0.win.arr_inj c (V0 m c) (fun w => (dats m 0 c).arrAt w (cfgs 0).N) 5).trans
      (final5 m c)
  rw [e]
  funext i
  obtain ⟨b, n, j, rfl⟩ : ∃ b n j, i = ix3 b n j := ⟨_, _, _, eq_ix3 i⟩
  pointwise []
  rw [arr5_apply]
  rfl

/-- Result 3: the transposed array 3 of the grid. -/
theorem tail_v12 (c : Dev nD) :
    (Pipeline.afterTail₀ cfgs (dats m) 0 (V0 m) [hostOps1] c main_v12 : S1024x12x128.Idx → EReal) = r2 m c := by
  show StableHlo.after (hostOps1 : List (HloOp τ sig (Elt Ideal))) _ (Proc.devRef .tc main_v12) = _
  unfold hostOps1
  after_results
  have e : Pipeline.withArrays (cfgs 0).spec c (V0 m c) (fun w => (dats m 0 c).arrAt w (cfgs 0).N)
      (Proc.tc.devRef main_v9_2) = arr6 m c :=
    (Pipeline.withArrays_arr spec0 launch0.win.arr_inj c (V0 m c) (fun w => (dats m 0 c).arrAt w (cfgs 0).N) 6).trans
      (final6 m c)
  rw [e]
  funext i
  obtain ⟨b, n, j, rfl⟩ : ∃ b n j, i = ix3 b n j := ⟨_, _, _, eq_ix3 i⟩
  pointwise []
  rw [arr6_apply]
  rfl

/-- Result 4: the transposed array 4 of the grid. -/
theorem tail_v13 (c : Dev nD) :
    (Pipeline.afterTail₀ cfgs (dats m) 0 (V0 m) [hostOps1] c main_v13 : S1024x12x512.Idx → EReal) = r3 m c := by
  show StableHlo.after (hostOps1 : List (HloOp τ sig (Elt Ideal))) _ (Proc.devRef .tc main_v13) = _
  unfold hostOps1
  after_results
  have e : Pipeline.withArrays (cfgs 0).spec c (V0 m c) (fun w => (dats m 0 c).arrAt w (cfgs 0).N)
      (Proc.tc.devRef main_v9_3) = arr7 m c :=
    (Pipeline.withArrays_arr spec0 launch0.win.arr_inj c (V0 m c) (fun w => (dats m 0 c).arrAt w (cfgs 0).N) 7).trans
      (final7 m c)
  rw [e]
  funext i
  obtain ⟨b, n, j, rfl⟩ : ∃ b n j, i = ix3 b n j := ⟨_, _, _, eq_ix3 i⟩
  pointwise []
  rw [arr7_apply]
  rfl

/-- The kernel's run: it ends with the four results in the result arrays and the arguments as launched. -/
theorem run : θ_run defs (onTc (τ := τ) (main (F := Ideal))) ⟨m, fun _ => 0, ρ⟩ (fun r => ∀ c : Dev nD,
    (r.2.mem ((c.tc : Thread nD τ).loc main_v10) = r0 m c
      ∧ r.2.mem ((c.tc : Thread nD τ).loc main_v11) = r1 m c
      ∧ r.2.mem ((c.tc : Thread nD τ).loc main_v12) = r2 m c
      ∧ r.2.mem ((c.tc : Thread nD τ).loc main_v13) = r3 m c)) :=
  (θ_run defs _ _).mono (fun _ h c =>
    ⟨((h c).2 main_v10 (Pipeline.mem_restRefs_of main_v10 (by decide) (by decide))).trans (tail_v10 m c),
      ((h c).2 main_v11 (Pipeline.mem_restRefs_of main_v11 (by decide) (by decide))).trans (tail_v11 m c),
      ((h c).2 main_v12 (Pipeline.mem_restRefs_of main_v12 (by decide) (by decide))).trans (tail_v12 m c),
      ((h c).2 main_v13 (Pipeline.mem_restRefs_of main_v13 (by decide) (by decide))).trans (tail_v13 m c)⟩)
    (run_main m ρ)

end Cert.KernelIdeal.Result

end
-- ==== Proof.Words.lean ====
/-
Facts on 32-bit token words in the range the tokens have: the comparisons, the one-hot entries as zeros and ones, the
range check of an index, and the sum of bits as a count.
-/
module

public import proofs.«01_k».proof.Proof.Result
public import Idealize.ShloMosaic.Lib.WordCmp

@[expose] public section

set_option maxRecDepth 16384

noncomputable section

namespace Cert.Words

open Idealize.ShloMosaic Idealize.ShloMosaic.WordCmp Cert.Spec

/-- A bit as a number. -/
theorem bitR (p : Prop) [Decidable p] :
    FloatOps.sitofp (F := Ideal) FTy.f32 (BitVec.setWidth 32 (BitVec.ofBool (decide p))) = if p then (1 : EReal) else 0 := by
  show (((BitVec.setWidth 32 (BitVec.ofBool (decide p))).toInt : ℝ) : EReal) = _
  by_cases h : p
  · rw [decide_eq_true h, if_pos h]
    have : (BitVec.setWidth 32 (BitVec.ofBool true)).toInt = 1 := by decide
    rw [this]; simp
  · rw [decide_eq_false h, if_neg h]
    have : (BitVec.setWidth 32 (BitVec.ofBool false)).toInt = 0 := by decide
    rw [this]; simp

/-- A one-hot entry is one exactly at the column one below the token. -/
theorem hot_eq (t : BitVec 32) (s : Nat) (hs : s < 1024) : hot t s = if t.toNat = s + 1 then (1 : EReal) else 0 := by
  unfold hot
  rw [cmpi_eq_eq, bitR]
  refine if_congr ?_ rfl rfl
  show BitVec.ofNat 32 s = t - 1#32 ↔ _
  rw [← BitVec.toNat_inj]
  have := t.isLt
  simp only [BitVec.toNat_ofNat, BitVec.toNat_sub]
  omega

theorem toInt_of_le {t : BitVec 32} (h : t.toNat ≤ 1024) : t.toInt = t.toNat := by
  rw [BitVec.toInt_eq_toNat_cond]; split <;> omega

/-- The index the reference takes a row at: the token less one, raised to zero when negative. -/
theorem sub_max_toNat {t : BitVec 32} (h : t.toNat ≤ 1024) :
    (IntOp.maxsi (IntOp.subi t 1#32) 0#32).toNat = t.toNat - 1 := by
  unfold IntOp.maxsi IntOp.subi
  by_cases h0 : t = 0#32
  · subst h0; decide
  · have hne : t.toNat ≠ 0 := fun e => h0 (BitVec.eq_of_toNat_eq (by simpa using e))
    have e : (t - 1#32).toNat = t.toNat - 1 := by
      simp only [BitVec.toNat_sub, BitVec.toNat_ofNat]; omega
    have e' : (t - 1#32).toInt = ((t.toNat - 1 : ℕ) : ℤ) := by
      rw [BitVec.toInt_eq_toNat_cond, e]; split <;> omega
    simp only [BitVec.slt, e', BitVec.toInt_zero]
    split <;> simp_all <;> omega

/-- The same with the column at the token less one, raised to zero. -/
theorem hotMax_eq {t : BitVec 32} (h : t.toNat ≤ 1024) (s : Nat) (hs : s < 1024) :
    hotMax t s = if t.toNat - 1 = s then (1 : EReal) else 0 := by
  unfold hotMax
  rw [cmpi_eq_eq, bitR]
  refine if_congr ?_ rfl rfl
  rw [← BitVec.toNat_inj, sub_max_toNat h, BitVec.toNat_ofNat]
  omega

/-- A token in range is positive exactly when its natural is. -/
theorem on_eq {t : BitVec 32} (h : t.toNat ≤ 1024) : on t = BitVec.ofBool (decide (0 < t.toNat)) := by
  unfold on
  rw [cmpi_sgt_eq, toInt_of_le h]
  congr 1
  refine decide_eq_decide.mpr ?_
  rw [BitVec.toInt_zero]; omega

/-- A positive word's natural is its integer. -/
theorem toInt_pos {t : BitVec 32} (h : 0 < t.toInt) : (t.toNat : ℤ) = t.toInt ∧ 0 < t.toNat := by
  have := t.isLt
  rw [BitVec.toInt_eq_toNat_cond] at h ⊢
  split at h <;> refine ⟨?_, by omega⟩ <;> split <;> omega

/-- A token that is not positive, signed. -/
theorem on_of_not_pos {t : BitVec 32} (h : ¬0 < t.toInt) : on t = 0#1 := by
  unfold on
  rw [cmpi_sgt_eq, BitVec.toInt_zero, decide_eq_false h]
  rfl

theorem onR_eq {t : BitVec 32} (h : t.toNat ≤ 1024) : onR t = if 0 < t.toNat then (1 : EReal) else 0 := by
  unfold onR; rw [on_eq h, bitR]

theorem select_ofBool {α : Type} (p : Prop) [Decidable p] (a b : α) :
    Scalar.select (BitVec.ofBool (decide p)) a b = if p then a else b := by
  unfold Scalar.select
  refine if_congr ?_ rfl rfl
  exact ofBool_decide_eq_one_iff p

/-! ## An index that is not negative -/

/-- An index below the sign bit is not counted from the end. -/
theorem wrap_eq {t : BitVec 32} (h : t.toNat ≤ 1024) (k : BitVec 32) :
    Scalar.select (IntOp.cmpi .slt t 0#32) (IntOp.addi t k) t = t := by
  rw [cmpi_slt_eq, select_ofBool, if_neg]
  rw [toInt_of_le h, BitVec.toInt_zero]; omega

/-- An index in range passes the range check. -/
theorem check_eq {t : BitVec 32} (h : t.toNat ≤ 1024) {k : Nat} (hk : t.toNat ≤ k) (hk' : k ≤ 1024) :
    IntOp.andi (IntOp.cmpi .sge t 0#32) (IntOp.cmpi .sle t (BitVec.ofNat 32 k)) = 1#1 := by
  have e : (BitVec.ofNat 32 k).toNat = k := by rw [BitVec.toNat_ofNat]; omega
  rw [cmpi_sge_eq, cmpi_sle_eq, toInt_of_le h, toInt_of_le (t := BitVec.ofNat 32 k) (by omega), e, BitVec.toInt_zero,
    decide_eq_true (by omega), decide_eq_true (by omega)]
  decide

/-- A conjunction over one entry, that entry true. -/
theorem fold_one {f : Fin 1 → BitVec 1} (h : ∀ x, f x = 1#1) : Finset.fold IntOp.andi 1#1 f Finset.univ = 1#1 := by
  rw [show f = fun _ => 1#1 from funext h]
  decide

/-! ## Counting -/

/-- The sum of four words is the reference's reduction of them. -/
theorem msum_eq (f : Fin 4 → BitVec 32) : Finset.fold IntOp.addi 0#32 f Finset.univ = msum (f 0) (f 1) (f 2) (f 3) := by
  rw [show (Finset.univ : Finset (Fin 4)) = {0, 1, 2, 3} from rfl, Finset.fold_insert (by decide),
    Finset.fold_insert (by decide), Finset.fold_insert (by decide), Finset.fold_singleton]
  show f 0 + (f 1 + (f 2 + (f 3 + 0#32))) = 0#32 + f 0 + f 1 + f 2 + f 3
  rw [BitVec.zero_add, BitVec.add_zero, BitVec.add_assoc, BitVec.add_assoc]

/-- A sum of bits, as words, is their count. -/
theorem count_word {ι : Type} (s : Finset ι) (p : ι → Prop) [DecidablePred p] :
    Finset.fold IntOp.addi 0#32 (fun i => BitVec.setWidth 32 (BitVec.ofBool (decide (p i)))) s
      = BitVec.ofNat 32 (s.filter p).card := by
  classical
  induction s using Finset.induction_on with
  | empty => rfl
  | insert a s ha ih =>
    rw [Finset.fold_insert ha, ih, Finset.filter_insert]
    by_cases h : p a
    · rw [if_pos h, Finset.card_insert_of_notMem (by simp [ha]), decide_eq_true h, BitVec.ofNat_add, BitVec.add_comm]
      rfl
    · rw [if_neg h, decide_eq_false h]
      exact BitVec.zero_add _

/-- A sum of bits, as numbers, is their count. -/
theorem count_real {ι : Type} (s : Finset ι) (p : ι → Prop) [DecidablePred p] :
    ∑ i ∈ s, (if p i then (1 : EReal) else 0) = (((s.filter p).card : ℝ) : EReal) := by
  rw [Finset.sum_ite, Finset.sum_const_zero, add_zero, Finset.sum_const]
  simp

/-- Four less a count of at most 512, taken in words and converted, is the difference of the numbers. -/
theorem four_sub {ι : Type} [Fintype ι] (hι : Fintype.card ι ≤ 512) (p : ι → Prop) [DecidablePred p] :
    FloatOps.sitofp (F := Ideal) FTy.f32
        (IntOp.subi 4#32 (Finset.fold IntOp.addi 0#32 (fun i => BitVec.setWidth 32 (BitVec.ofBool (decide (p i)))) Finset.univ))
      = ((4 : ℝ) : EReal)
          - ∑ i, FloatOps.sitofp (F := Ideal) FTy.f32 (BitVec.setWidth 32 (BitVec.ofBool (decide (p i)))) := by
  rw [count_word, Finset.sum_congr rfl (fun i _ => bitR (p i)), count_real, ← EReal.coe_sub]
  have hc : (Finset.univ.filter p).card ≤ 512 := le_trans (Finset.card_le_univ _) hι
  generalize (Finset.univ.filter p).card = c at hc
  show (((4#32 - BitVec.ofNat 32 c).toInt : ℝ) : EReal) = _
  have : (4#32 - BitVec.ofNat 32 c).toInt = 4 - (c : ℤ) := by
    have e4 : (4#32).toInt = 4 := by decide
    have hn : (BitVec.ofNat 32 c).toNat = c := by rw [BitVec.toNat_ofNat]; omega
    have ec : (BitVec.ofNat 32 c).toInt = c := by rw [toInt_of_le (by omega), hn]
    rw [BitVec.toInt_sub, e4, ec, Int.bmod_def]; split <;> omega
  rw [this]
  push_cast
  rfl

end Cert.Words

end
-- ==== Proof.Rows.lean ====
/-
Reading a gather of whole rows of a table, at an index.
-/
module

public import proofs.«01_k».proof.Proof.Words

@[expose] public section

set_option maxRecDepth 16384

noncomputable section

namespace Cert.Rows

open Idealize.ShloMosaic

/-- The dimension numbers of a gather of rows: row `idx[b, n, 0]` of a table, for each `(b, n)`. -/
abbrev rows3 (N K B C : Nat)
    (wf : GatherDims.WF ⟨2, ![N, K]⟩ ⟨3, ![B, C, 1]⟩ ⟨3, ![B, C, K]⟩ [2] [0] [] [0] [] 2 ![1, K]) :
    GatherDims ⟨2, ![N, K]⟩ ⟨3, ![B, C, 1]⟩ ⟨3, ![B, C, K]⟩ where
  offsetDims := [2]
  collapsedSliceDims := [0]
  operandBatchingDims := []
  startIndicesBatchingDims := []
  startIndexMap := [0]
  indexVectorDim := 2
  sliceSizes := ![1, K]
  wf := wf

/-- A gather of rows at an index: the entry of the named row, the row number clamped into the table. -/
theorem rows3_apply {α : Type} {N K B C w : Nat} (hN : 0 < N) (wf) (x : (⟨2, ![N, K]⟩ : Shape).Idx → α)
    (idx : IVec ⟨3, ![B, C, 1]⟩ w) (b : Fin B) (n : Fin C) (j : Fin K) :
    Host.gather (rows3 N K B C wf) x idx (ix3 b n j)
      = x (ix2 ⟨min (idx (ix3 b n 0)).toInt.toNat (N - 1), by omega⟩ j) := by
  unfold Host.gather
  congr 1
  funext a
  refine Fin.ext ?_
  show (rows3 N K B C wf).start (ix3 b n j) idx a + (rows3 N K B C wf).batchCoord (ix3 b n j) a
      + (rows3 N K B C wf).offCoord (ix3 b n j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rows3 N K B C wf).startIndexMap from List.mem_singleton.mpr rfl)]
    have hsi : (rows3 N K B C wf).siIdx (ix3 b n j) ⟨0, Nat.one_pos⟩ = ix3 b n 0 := by
      funext q; refine Fin.ext ?_
      match q with
      | ⟨0, _⟩ => rfl
      | ⟨1, _⟩ => rfl
      | ⟨2, _⟩ => rfl
    exact congrArg (fun z => min (idx z).toInt.toNat (N - 1)) hsi
  · unfold GatherDims.start
    rw [dif_neg (show (1 : Fin 2) ∉ (rows3 N K B C wf).startIndexMap from by simp)]
    show 0 + 0 + _ = j.val
    rw [Nat.zero_add]
    rfl

/-- The dimension numbers of the same gather over one more leading dimension. -/
abbrev rows4 (N K B C D : Nat)
    (wf : GatherDims.WF ⟨2, ![N, K]⟩ ⟨4, ![B, C, D, 1]⟩ ⟨4, ![B, C, D, K]⟩ [3] [0] [] [0] [] 3 ![1, K]) :
    GatherDims ⟨2, ![N, K]⟩ ⟨4, ![B, C, D, 1]⟩ ⟨4, ![B, C, D, K]⟩ where
  offsetDims := [3]
  collapsedSliceDims := [0]
  operandBatchingDims := []
  startIndicesBatchingDims := []
  startIndexMap := [0]
  indexVectorDim := 3
  sliceSizes := ![1, K]
  wf := wf

/-- That gather at an index. -/
theorem rows4_apply {α : Type} {N K B C D w : Nat} (hN : 0 < N) (wf) (x : (⟨2, ![N, K]⟩ : Shape).Idx → α)
    (idx : IVec ⟨4, ![B, C, D, 1]⟩ w) (b : Fin B) (n : Fin C) (d : Fin D) (j : Fin K) :
    Host.gather (rows4 N K B C D wf) x idx (ix4 b n d j)
      = x (ix2 ⟨min (idx (ix4 b n d 0)).toInt.toNat (N - 1), by omega⟩ j) := by
  unfold Host.gather
  congr 1
  funext a
  refine Fin.ext ?_
  show (rows4 N K B C D wf).start (ix4 b n d j) idx a + (rows4 N K B C D wf).batchCoord (ix4 b n d j) a
      + (rows4 N K B C D wf).offCoord (ix4 b n d j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rows4 N K B C D wf).startIndexMap from List.mem_singleton.mpr rfl)]
    have hsi : (rows4 N K B C D wf).siIdx (ix4 b n d j) ⟨0, Nat.one_pos⟩ = ix4 b n d 0 := by
      funext q; refine Fin.ext ?_
      match q with
      | ⟨0, _⟩ => rfl
      | ⟨1, _⟩ => rfl
      | ⟨2, _⟩ => rfl
      | ⟨3, _⟩ => rfl
    exact congrArg (fun z => min (idx z).toInt.toNat (N - 1)) hsi
  · unfold GatherDims.start
    rw [dif_neg (show (1 : Fin 2) ∉ (rows4 N K B C D wf).startIndexMap from by simp)]
    show 0 + 0 + _ = j.val
    rw [Nat.zero_add]
    rfl

end Cert.Rows

end
-- ==== Proof.Take.lean ====
/-
What the reference takes from its four lookup tables: for a token in range, the entry of the token's row.
-/
module

public import proofs.«01_k».proof.Proof.Gen.ReferenceIdeal.Read
public import proofs.«01_k».proof.Proof.Rows

@[expose] public section

set_option maxRecDepth 16384

noncomputable section

namespace Cert.ReferenceIdeal.Take

open Cert.ReferenceIdeal Cert.ReferenceIdeal.Gen Cert.ReferenceIdeal.Read Cert.Words Cert.Rows Idealize.ShloMosaic

/-- A row number in range is not changed by clamping. -/
theorem clamp_toNat {t : BitVec 32} (h : t.toNat ≤ 1024) {k : Nat} (hk : t.toNat ≤ k) : min t.toInt.toNat k = t.toNat := by
  rw [toInt_of_le h]; omega

/-- The species table's entry. -/
theorem species (x0 : S1024x12.Idx → BitVec 32) (x4 : S1025x1024.Idx → EReal) (b : Fin 1024) (n : Fin 12) (s : Fin 1024)
    (h : (x0 (ix2 b n)).toNat ≤ 1024) :
    val_main_v3 (F := Ideal) x0 x4 (ix3 b n s) = x4 (ix2 ⟨(x0 (ix2 b n)).toNat, by omega⟩ s) := by
  have hidx : val_main_call0_v5 (F := Ideal) x0 (ix3 b n 0) = x0 (ix2 b n) := by
    pointwise [val_main_call0_v5, val_main_call0_v4, val_main_call0_v3, val_main_call0_v2, val_main_call0_v1, val_main_call0_v0, val_main_call0_c, val_main_call0_c_0]
    exact wrap_eq h _
  have hg : val_main_call0_v13 (F := Ideal) x0 x4 (ix3 b n s) = x4 (ix2 ⟨(x0 (ix2 b n)).toNat, by omega⟩ s) := by
    unfold val_main_call0_v13
    refine (rows3_apply (by decide) _ x4 (val_main_call0_v5 (F := Ideal) x0) b n s).trans ?_
    congr 2
    refine Fin.ext ?_
    show min _ 1024 = _
    rw [hidx, clamp_toNat h h]
  rw [← hg]
  pointwise [val_main_v3, val_main_call0_v14, val_main_call0_v12, val_main_call0_c_3, val_main_call0_v11, val_main_call0_v10, val_main_call0_v9, val_main_call0_v8, val_main_call0_v7, val_main_call0_v6, val_main_call0_c_2, val_main_call0_c_1, val_main_call0_v5, val_main_call0_v4, val_main_call0_v3, val_main_call0_v2, val_main_call0_v1, val_main_call0_v0, val_main_call0_c, val_main_call0_c_0]
  rw [fold_one (fun x => by rw [wrap_eq h]; exact check_eq h h (le_refl 1024))]
  rfl

/-- The ability table's entry. -/
theorem ability (x1 : S1024x12.Idx → BitVec 32) (x6 : S128x128.Idx → EReal) (b : Fin 1024) (n : Fin 12) (j : Fin 128)
    (h : (x1 (ix2 b n)).toNat ≤ 128) :
    val_main_v23 (F := Ideal) x1 x6 (ix3 b n j) = x6 (ix2 ⟨(x1 (ix2 b n)).toNat - 1, by omega⟩ j) := by
  have e := sub_max_toNat (t := x1 (ix2 b n)) (by omega)
  have h' : (IntOp.maxsi (IntOp.subi (x1 (ix2 b n)) 1#32) 0#32).toNat ≤ 127 := by omega
  have hidx : val_main_call2_v5 (F := Ideal) x1 (ix3 b n 0) = IntOp.maxsi (IntOp.subi (x1 (ix2 b n)) 1#32) 0#32 := by
    pointwise [val_main_call2_v5, val_main_call2_v4, val_main_call2_v3, val_main_call2_v2, val_main_call2_v1, val_main_call2_v0, val_main_call2_c, val_main_call2_c_0, val_main_v22, val_main_v21, val_main_c_5, val_main_v20, val_main_v19, val_main_c_4]
    exact wrap_eq (by omega) _
  have hg : val_main_call2_v13 (F := Ideal) x1 x6 (ix3 b n j) = x6 (ix2 ⟨(x1 (ix2 b n)).toNat - 1, by omega⟩ j) := by
    unfold val_main_call2_v13
    refine (rows3_apply (by decide) _ x6 (val_main_call2_v5 (F := Ideal) x1) b n j).trans ?_
    congr 2
    refine Fin.ext ?_
    show min _ 127 = _
    rw [hidx, clamp_toNat (by omega) h', e]
  rw [← hg]
  pointwise [val_main_v23, val_main_call2_v14, val_main_call2_v12, val_main_call2_c_3, val_main_call2_v11, val_main_call2_v10, val_main_call2_v9, val_main_call2_v8, val_main_call2_v7, val_main_call2_v6, val_main_call2_c_2, val_main_call2_c_1, val_main_call2_v5, val_main_call2_v4, val_main_call2_v3, val_main_call2_v2, val_main_call2_v1, val_main_call2_v0, val_main_call2_c, val_main_call2_c_0, val_main_v22, val_main_v21, val_main_c_5, val_main_v20, val_main_v19, val_main_c_4]
  rw [fold_one (fun x => by rw [wrap_eq (by omega)]; exact check_eq (by omega) h' (by decide))]
  rfl

/-- The item table's entry. -/
theorem item (x2 : S1024x12.Idx → BitVec 32) (x8 : S128x128.Idx → EReal) (b : Fin 1024) (n : Fin 12) (j : Fin 128)
    (h : (x2 (ix2 b n)).toNat ≤ 128) :
    val_main_v39 (F := Ideal) x2 x8 (ix3 b n j) = x8 (ix2 ⟨(x2 (ix2 b n)).toNat - 1, by omega⟩ j) := by
  have e := sub_max_toNat (t := x2 (ix2 b n)) (by omega)
  have h' : (IntOp.maxsi (IntOp.subi (x2 (ix2 b n)) 1#32) 0#32).toNat ≤ 127 := by omega
  have hidx : val_main_call4_v5 (F := Ideal) x2 (ix3 b n 0) = IntOp.maxsi (IntOp.subi (x2 (ix2 b n)) 1#32) 0#32 := by
    pointwise [val_main_call4_v5, val_main_call4_v4, val_main_call4_v3, val_main_call4_v2, val_main_call4_v1, val_main_call4_v0, val_main_call4_c, val_main_call4_c_0, val_main_v38, val_main_v37, val_main_c_10, val_main_v36, val_main_v35, val_main_c_9]
    exact wrap_eq (by omega) _
  have hg : val_main_call4_v13 (F := Ideal) x2 x8 (ix3 b n j) = x8 (ix2 ⟨(x2 (ix2 b n)).toNat - 1, by omega⟩ j) := by
    unfold val_main_call4_v13
    refine (rows3_apply (by decide) _ x8 (val_main_call4_v5 (F := Ideal) x2) b n j).trans ?_
    congr 2
    refine Fin.ext ?_
    show min _ 127 = _
    rw [hidx, clamp_toNat (by omega) h', e]
  rw [← hg]
  pointwise [val_main_v39, val_main_call4_v14, val_main_call4_v12, val_main_call4_c_3, val_main_call4_v11, val_main_call4_v10, val_main_call4_v9, val_main_call4_v8, val_main_call4_v7, val_main_call4_v6, val_main_call4_c_2, val_main_call4_c_1, val_main_call4_v5, val_main_call4_v4, val_main_call4_v3, val_main_call4_v2, val_main_call4_v1, val_main_call4_v0, val_main_call4_c, val_main_call4_c_0, val_main_v38, val_main_v37, val_main_c_10, val_main_v36, val_main_v35, val_main_c_9]
  rw [fold_one (fun x => by rw [wrap_eq (by omega)]; exact check_eq (by omega) h' (by decide))]
  rfl

/-- The move table's entry. -/
theorem move (x3 : S1024x12x4.Idx → BitVec 32) (x10 : S513x512.Idx → EReal) (b : Fin 1024) (n : Fin 12) (d : Fin 4)
    (j : Fin 512) (h : (x3 (ix3 b n d)).toNat ≤ 512) :
    val_main_v53 (F := Ideal) x3 x10 (ix4 b n d j) = x10 (ix2 ⟨(x3 (ix3 b n d)).toNat, by omega⟩ j) := by
  have hidx : val_main_call6_v5 (F := Ideal) x3 (ix4 b n d 0) = x3 (ix3 b n d) := by
    pointwise [val_main_call6_v5, val_main_call6_v4, val_main_call6_v3, val_main_call6_v2, val_main_call6_v1, val_main_call6_v0, val_main_call6_c, val_main_call6_c_0]
    exact wrap_eq (by omega) _
  have hg : val_main_call6_v13 (F := Ideal) x3 x10 (ix4 b n d j) = x10 (ix2 ⟨(x3 (ix3 b n d)).toNat, by omega⟩ j) := by
    unfold val_main_call6_v13
    refine (rows4_apply (by decide) _ x10 (val_main_call6_v5 (F := Ideal) x3) b n d j).trans ?_
    congr 2
    refine Fin.ext ?_
    show min _ 512 = _
    rw [hidx, clamp_toNat (by omega) h]
  rw [← hg]
  pointwise [val_main_v53, val_main_call6_v14, val_main_call6_v12, val_main_call6_c_3, val_main_call6_v11, val_main_call6_v10, val_main_call6_v9, val_main_call6_v8, val_main_call6_v7, val_main_call6_v6, val_main_call6_c_2, val_main_call6_c_1, val_main_call6_v5, val_main_call6_v4, val_main_call6_v3, val_main_call6_v2, val_main_call6_v1, val_main_call6_v0, val_main_call6_c, val_main_call6_c_0]
  rw [fold_one (fun x => by rw [wrap_eq (by omega)]; exact check_eq (by omega) h (by decide))]
  rfl

end Cert.ReferenceIdeal.Take

end
-- ==== Proof.PreFacts.lean ====
/-
What the precondition says: the tokens' ranges, and the lookup tables entry by entry.
-/
module

public import proofs.«01_k».proof.Defs
public import proofs.«01_k».proof.Proof.Gen.Pre_unit_tables
public import proofs.«01_k».proof.Proof.Take

@[expose] public section

set_option maxRecDepth 16384

noncomputable section

namespace Cert.PreFacts

open Cert.KernelIdeal Cert.Words Idealize.ShloMosaic Idealize.ShloMosaic.WordCmp

/-- A word that passes the range check of the precondition is at most the bound. -/
theorem range_of {t : BitVec 32} {k : Nat} (hk : k < 2 ^ 31)
    (h : IntOp.andi (IntOp.cmpi .sge t 0#32) (IntOp.cmpi .sle t (BitVec.ofNat 32 k)) = 1#1) : t.toNat ≤ k := by
  rw [cmpi_sge_zero, cmpi_sle_eq, andi_ofBool, ← Bool.decide_and, ofBool_decide_eq_one_iff] at h
  obtain ⟨h0, h1⟩ := h
  rw [toInt_eq_toNat_of_lt_half h0, toInt_ofNat_of_lt hk] at h1
  omega

/-- A word that passes the precondition's check from above alone. -/
theorem top_of {t : BitVec 32} (h : IntOp.cmpi .sle t 128#32 = 1#1) : t.toInt ≤ 128 :=
  (ofBool_decide_eq_one_iff _).mp h

/-- An entry that equals the unit entry of the precondition. -/
theorem unit_of {x : EReal} {p q k : Nat} (hp : p < 2048) (hq : q < 2048) (hk : k < 2)
    (h : Scalar.cmpf (F := Ideal) (φ := .f32) .oeq x
      (Scalar.select (IntOp.cmpi .eq (BitVec.ofNat 32 p) (IntOp.addi (BitVec.ofNat 32 q) (BitVec.ofNat 32 k)))
        (Ideal.ofBits FTy.f32 0x3F800000#32) (Ideal.ofBits FTy.f32 0#32)) = 1#1) :
    x = if p = q + k then (1 : EReal) else 0 := by
  have h' : x = _ := (ofBool_decide_eq_one_iff _).mp h
  rw [h', Ideal.ofBits_one_f32, Ideal.ofBits_zero_f32, cmpi_eq_eq, Words.select_ofBool]
  refine if_congr ?_ rfl rfl
  show BitVec.ofNat 32 p = BitVec.ofNat 32 q + BitVec.ofNat 32 k ↔ _
  rw [← BitVec.toNat_inj]
  simp only [BitVec.toNat_ofNat, BitVec.toNat_add]
  omega

/-- The tokens are in range and the tables are unit tables. -/
structure Holds (x0 x1 x2 : S1024x12.Idx → BitVec 32) (x3 : S1024x12x4.Idx → BitVec 32) (x4 : S1025x1024.Idx → EReal)
    (x6 x8 : S128x128.Idx → EReal) (x10 : S513x512.Idx → EReal) : Prop where
  species : ∀ b n, (x0 (ix2 b n)).toNat ≤ 1024
  ability : ∀ b n, (x1 (ix2 b n)).toInt ≤ 128
  item : ∀ b n, (x2 (ix2 b n)).toNat ≤ 128
  move : ∀ b n d, (x3 (ix3 b n d)).toNat ≤ 512
  speciesT : ∀ p q, x4 (ix2 p q) = if p.val = q.val + 1 then (1 : EReal) else 0
  abilityT : ∀ p q : Fin 128, x6 (ix2 p q) = if p.val = q.val then (1 : EReal) else 0
  itemT : ∀ p q : Fin 128, x8 (ix2 p q) = if p.val = q.val then (1 : EReal) else 0
  moveT : ∀ p q, x10 (ix2 p q) = if p.val = q.val + 1 then (1 : EReal) else 0

attribute [local instance] Cert.Pre_unit_tables.Gen.facts

/-- The precondition gives them, on every device. -/
theorem holds (m : (ℓ : Loc nD τ sig) → Buf (Elt Ideal) ℓ) (h : Cert.Pre_KernelIdeal_unit_tables m) (c : Dev nD) :
    Holds (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg6))
      (m ((c.tc : Thread nD τ).loc main_arg8)) (m ((c.tc : Thread nD τ).loc main_arg10)) := by
  obtain ⟨h0, h1, h2, h3, h4, h5, h6, h7⟩ := h c
  exact
    { species := fun b n => range_of (by decide) (congrFun h0 (ix2 b n))
      ability := fun b n => top_of (congrFun h1 (ix2 b n))
      item := fun b n => range_of (by decide) (congrFun h2 (ix2 b n))
      move := fun b n d => range_of (by decide) (congrFun h3 (ix3 b n d))
      speciesT := fun p q => unit_of (k := 1) (lt_trans p.isLt (by decide)) (lt_trans q.isLt (by decide)) (by decide) (congrFun h4 (ix2 p q))
      abilityT := fun p q => unit_of (k := 0) (lt_trans p.isLt (by decide)) (lt_trans q.isLt (by decide)) (by decide) (congrFun h5 (ix2 p q))
      itemT := fun p q => unit_of (k := 0) (lt_trans p.isLt (by decide)) (lt_trans q.isLt (by decide)) (by decide) (congrFun h6 (ix2 p q))
      moveT := fun p q => unit_of (k := 1) (lt_trans p.isLt (by decide)) (lt_trans q.isLt (by decide)) (by decide) (congrFun h7 (ix2 p q)) }

end Cert.PreFacts

end
-- ==== Proof.Laws.lean ====
/-
The equations between the reference's formulas and the kernel's, over the extended reals, for tokens in range.
-/
module

public import proofs.«01_k».proof.Proof.PreFacts

@[expose] public section

set_option maxRecDepth 16384

noncomputable section

namespace Cert.Laws

open Cert.Words Cert.Spec Idealize.ShloMosaic

/-- The pattern of the float 1024. -/
theorem ofBits_1024 : Ideal.ofBits FTy.f32 1149239296#32 = ((1024 : ℝ) : EReal) := by
  simp [Ideal.ofBits, Ideal.ieee, -EReal.coe_mul]; norm_num

/-- The pattern of the float 4. -/
theorem ofBits_4 : Ideal.ofBits FTy.f32 1082130432#32 = ((4 : ℝ) : EReal) := by
  simp [Ideal.ofBits, Ideal.ieee, -EReal.coe_mul]; norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] : (if p then (1 : EReal) else 0) = ((if p then (1 : ℝ) else 0 : ℝ) : EReal) := by
  split <;> simp

/-- A sum times a real factor that is not negative. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The columns of one token's one-hot row add up to one, or to zero for the token zero. -/
theorem sum_hot {t : Nat} (h : t ≤ 1024) :
    (∑ s : Fin 1024, if t = s.val + 1 then (1 : ℝ) else 0) = if 0 < t then 1 else 0 := by
  by_cases h0 : 0 < t
  · rw [if_pos h0, Finset.sum_eq_single (⟨t - 1, by omega⟩ : Fin 1024)]
    · rw [if_pos]; show t = t - 1 + 1; omega
    · intro s _ hs
      rw [if_neg]
      intro e
      exact hs (Fin.ext (by show s.val = t - 1; omega))
    · intro hn; exact absurd (Finset.mem_univ _) hn
  · rw [if_neg h0]
    refine Finset.sum_eq_zero fun s _ => if_neg (by omega)

/-- The reference's divisor, the sum of the unclaimed species raised to one, is the kernel's, 1024 less the number of
    known species raised to one; and it is a real number that is at least one. -/
theorem divisor (σ : Fin 12 → BitVec 32) (hσ : ∀ n, (σ n).toNat ≤ 1024) :
    ∃ T : ℝ, 1 ≤ T ∧ max (∑ s : Fin 1024, unk σ s.val) 1 = (T : EReal)
      ∧ max (Ideal.ofBits FTy.f32 1149239296#32 - ∑ n, onR (σ n)) 1 = (T : EReal) := by
  have hmax : ∀ r : ℝ, max (r : EReal) 1 = ((max r 1 : ℝ) : EReal) := fun r => by
    rw [← EReal.coe_one]; exact (EReal.coe_strictMono.monotone.map_max).symm
  have hu : ∀ s : Fin 1024, unk σ s.val = ((1 - ∑ n, (if (σ n).toNat = s.val + 1 then (1 : ℝ) else 0) : ℝ) : EReal) := by
    intro s
    unfold unk
    rw [EReal.coe_sub, coe_sum, EReal.coe_one]
    congr 1
    exact Finset.sum_congr rfl fun n _ => by rw [hot_eq _ _ s.isLt, coe_ite]
  have hk : ∑ n, onR (σ n) = ((∑ n, (if 0 < (σ n).toNat then (1 : ℝ) else 0) : ℝ) : EReal) := by
    rw [coe_sum]
    exact Finset.sum_congr rfl fun n _ => by rw [onR_eq (hσ n), coe_ite]
  refine ⟨max (1024 - ∑ n, (if 0 < (σ n).toNat then (1 : ℝ) else 0)) 1, le_max_right _ _, ?_, ?_⟩
  · rw [Finset.sum_congr rfl (fun s _ => hu s), ← coe_sum, hmax, Finset.sum_sub_distrib, Finset.sum_comm,
      Finset.sum_congr rfl (fun n _ => sum_hot (hσ n))]
    simp
  · rw [ofBits_1024, hk, ← EReal.coe_sub, hmax]

/-- The kernel's species embedding with the division in the reference's place. -/
theorem spec_eq (σ : Fin 12 → BitVec 32) (hσ : ∀ n, (σ n).toNat ≤ 1024) (n : Fin 12) (s : Nat) :
    Scalar.select (on (σ n)) (hot (σ n) s) (Ideal.div (unk σ s) (max (∑ s' : Fin 1024, unk σ s'.val) 1)) = spec σ n s := by
  obtain ⟨T, hT, h1, h2⟩ := divisor σ hσ
  unfold spec Spec.inv
  rw [h1, h2, Ideal.div_coe (by linarith), Ideal.div_coe (by linarith), one_mul]

/-- The product of the species embedding with a weight column, scaled after the sum. -/
theorem row_eq (σ : Fin 12 → BitVec 32) (hσ : ∀ n, (σ n).toNat ≤ 1024) {K : Nat} (w : Fin 1024 → Fin K → EReal)
    (n : Fin 12) (j : Fin K) : ∑ s : Fin 1024, spec σ n s.val * w s j = row σ w n j := by
  obtain ⟨T, hT, -, h2⟩ := divisor σ hσ
  have hi : Spec.inv σ = ((1 / T : ℝ) : EReal) := by
    unfold Spec.inv; rw [h2, Ideal.div_coe (by linarith), one_mul]
  unfold row spec
  rw [on_eq (hσ n)]
  simp only [select_ofBool]
  by_cases h : 0 < (σ n).toNat
  · simp only [if_pos h, mul_one]
  · simp only [if_neg h]
    rw [hi, sum_mul_coe _ _ (by positivity)]
    exact Finset.sum_congr rfl fun s _ => mul_right_comm _ _ _

end Cert.Laws

end
-- ==== Proof.RefValues.lean ====
/-
What the reference computes: under the precondition, its four results at an index are the kernel's formulas.
-/
module

public import proofs.«01_k».proof.Proof.Laws

@[expose] public section

set_option maxRecDepth 16384

noncomputable section

namespace Cert.ReferenceIdeal.RefValues

open Cert.ReferenceIdeal Cert.ReferenceIdeal.Gen Cert.ReferenceIdeal.Read Cert.Words Cert.Spec Cert.Laws Cert.PreFacts
open Cert.KernelIdeal.Result (tokRow movRow col)
open Idealize.ShloMosaic

variable {x0 x1 x2 : S1024x12.Idx → BitVec 32} {x3 : S1024x12x4.Idx → BitVec 32} {x4 : S1025x1024.Idx → EReal}
  {x6 x8 : S128x128.Idx → EReal} {x10 : S513x512.Idx → EReal} (H : Holds x0 x1 x2 x3 x4 x6 x8 x10)
  (x5 x7 : S1024x128.Idx → EReal) (x9 : S1024x512.Idx → EReal)

include H

/-! ## The rows taken from the tables are one-hot rows -/

theorem take_species (b : Fin 1024) (n : Fin 12) (s : Fin 1024) :
    val_main_v3 (F := Ideal) x0 x4 (ix3 b n s) = hot (x0 (ix2 b n)) s.val := by
  rw [Take.species x0 x4 b n s (H.species b n), H.speciesT, hot_eq _ _ s.isLt]

/-- Of a positive ability token. -/
theorem take_ability (b : Fin 1024) (n : Fin 12) (j : Fin 128) (hp : 0 < (x1 (ix2 b n)).toInt) :
    val_main_v23 (F := Ideal) x1 x6 (ix3 b n j) = hot (x1 (ix2 b n)) j.val := by
  have h := H.ability b n
  have hn := toInt_pos hp
  rw [Take.ability x1 x6 b n j (by omega), H.abilityT, hot_eq _ _ (by omega)]
  exact if_congr (by show _ - 1 = _ ↔ _; omega) rfl rfl

theorem take_item (b : Fin 1024) (n : Fin 12) (j : Fin 128) :
    val_main_v39 (F := Ideal) x2 x8 (ix3 b n j) = hotMax (x2 (ix2 b n)) j.val := by
  have h := H.item b n
  rw [Take.item x2 x8 b n j h, H.itemT, hotMax_eq (by omega) _ (by omega)]

theorem take_moves (b : Fin 1024) (n : Fin 12) (j : Fin 512) :
    ∑ d : Fin 4, val_main_v53 (F := Ideal) x3 x10 (ix4 b n d j)
      = km (x3 (ix3 b n 0)) (x3 (ix3 b n 1)) (x3 (ix3 b n 2)) (x3 (ix3 b n 3)) j.val := by
  have e : ∀ d : Fin 4, val_main_v53 (F := Ideal) x3 x10 (ix4 b n d j) = hot (x3 (ix3 b n d)) j.val := fun d => by
    rw [Take.move x3 x10 b n d j (H.move b n d), H.moveT, hot_eq _ _ (by omega)]
  rw [Finset.sum_congr rfl (fun d _ => e d), Fin.sum_univ_four]
  rfl

/-! ## The species embedding and its products -/

/-- The first result. -/
theorem species (b : Fin 1024) (n : Fin 12) (s : Fin 1024) :
    val_main_v15 (F := Ideal) x0 x4 (ix3 b n s) = spec (tokRow x0 b) n s.val := by
  rw [← spec_eq (tokRow x0 b) (H.species b) n s.val]
  have hu : ∀ (n : Fin 12) (s : Fin 1024), val_main_v8 (F := Ideal) x0 x4 (ix3 b n s) = unk (tokRow x0 b) s.val := fun n s => by
    pointwise [val_main_v8, val_main_v7, val_main_v6, val_main_v5, val_main_cst_0, val_main_v4, val_main_cst]
    unfold unk
    simp only [take_species H]
  pointwise [val_main_v15, val_main_call1_v0, val_main_v2, val_main_v1, val_main_v0, val_main_c, val_main_v14,
    val_main_v13, val_main_v12, val_main_v11, val_main_cst_2, val_main_v10, val_main_v9, val_main_cst_1]
  simp only [take_species H, hu]
  rfl

/-- A product of the species embedding with a weight column. -/
theorem product {K : Nat} (w : (⟨2, ![1024, K]⟩ : Shape).Idx → EReal) (b : Fin 1024) (n : Fin 12) (j : Fin K) :
    ∑ s : Fin 1024, val_main_v15 (F := Ideal) x0 x4 (ix3 b n s) * w (ix2 s j) = row (tokRow x0 b) (col w) n j := by
  rw [← row_eq (tokRow x0 b) (H.species b)]
  exact Finset.sum_congr rfl fun s _ => by rw [species H]

/-- The second result. -/
theorem ability (b : Fin 1024) (n : Fin 12) (j : Fin 128) :
    val_main_v31 (F := Ideal) x0 x1 x4 x5 x6 (ix3 b n j) = abil (tokRow x0 b) (tokRow x1 b) (col x5) n j := by
  pointwise [val_main_v31, val_main_call3_v0, val_main_v18, val_main_v17, val_main_v16, val_main_c_3, val_main_v30,
    val_main_v29, val_main_v28, val_main_v27, val_main_cst_7, val_main_v26, val_main_v25, val_main_cst_6, val_main_v24]
  simp only [product H]
  by_cases hp : 0 < (x1 (ix2 b n)).toInt
  · rw [take_ability H b n j hp]
    rfl
  · have ho : IntOp.cmpi .sgt (x1 (ix2 b n)) 0#32 = 0#1 := on_of_not_pos hp
    unfold abil on tokRow
    rw [ho]
    rfl

/-- The third result. -/
theorem item (b : Fin 1024) (n : Fin 12) (j : Fin 128) :
    val_main_v47 (F := Ideal) x0 x1 x2 x4 x7 x8 (ix3 b n j)
      = Spec.item (tokRow x0 b) (tokRow x1 b) (tokRow x2 b) (col x7) n j := by
  pointwise [val_main_v47, val_main_call5_v0, val_main_v34, val_main_v33, val_main_v32, val_main_c_8, val_main_v46,
    val_main_v45, val_main_v44, val_main_v43, val_main_cst_12, val_main_v42, val_main_v41, val_main_cst_11, val_main_v40]
  simp only [take_item H, product H]
  rfl

/-- The fourth result. -/
theorem moves (b : Fin 1024) (n : Fin 12) (j : Fin 512) :
    val_main_v76 (F := Ideal) x0 x3 x4 x9 x10 (ix3 b n j) = Spec.moves (tokRow x0 b) (movRow x3 b) (col x9) n j := by
  pointwise [val_main_v76, val_main_call7_v0, val_main_v75, val_main_v74, val_main_cst_21, val_main_v73, val_main_v72,
    val_main_v71, val_main_v70, val_main_v69, val_main_v68, val_main_c_20, val_main_v67, val_main_v66, val_main_c_19,
    val_main_v65, val_main_v64, val_main_v63, val_main_cst_18, val_main_v62, val_main_v61, val_main_v60, val_main_v59,
    val_main_cst_17, val_main_v58, val_main_v57, val_main_cst_16, val_main_v56, val_main_v55, val_main_v54,
    val_main_cst_15, val_main_v52, val_main_v51, val_main_v50, val_main_v49, val_main_c_14, val_main_v48, val_main_c_13,
    val_main_v1, val_main_v0, val_main_c]
  simp only [take_moves H, product H]
  rw [four_sub (by simp), msum_eq, ← ofBits_4]
  rfl

end Cert.ReferenceIdeal.RefValues

end
-- ==== Proof.Agree.lean ====
/-
The reference's run: from arguments equal to the kernel's, under the precondition, it ends with the kernel's results.
-/
module

public import proofs.«01_k».proof.Proof.Gen.ReferenceIdeal.Run
public import proofs.«01_k».proof.Proof.RefValues

@[expose] public section

set_option maxRecDepth 16384

noncomputable section

namespace Cert.Agree

open Cert.KernelIdeal Cert.KernelIdeal.Result Cert.PreFacts Idealize.ShloMosaic Idealize.ShloMosaic.TcCoe Idealize.SL.Sem

attribute [local instance] Cert.Pre_unit_tables.Gen.facts

variable (m : (ℓ : Loc nD τ sig) → Buf (Elt Ideal) ℓ) (h : Cert.Pre_KernelIdeal_unit_tables m) (c : Dev nD)

include h

/-- The species result. -/
theorem species :
    (Cert.ReferenceIdeal.Read.val_main_v15 (F := Ideal) (m ((c.tc : Thread nD τ).loc main_arg0))
      (m ((c.tc : Thread nD τ).loc main_arg4)) : S1024x12x1024.Idx → EReal) = r0 m c := by
  funext i
  obtain ⟨b, n, j, rfl⟩ : ∃ b n j, i = ix3 b n j := ⟨_, _, _, eq_ix3 i⟩
  exact Cert.ReferenceIdeal.RefValues.species (holds m h c) b n j

/-- The ability result. -/
theorem ability :
    (Cert.ReferenceIdeal.Read.val_main_v31 (F := Ideal) (m ((c.tc : Thread nD τ).loc main_arg0))
      (m ((c.tc : Thread nD τ).loc main_arg1)) (m ((c.tc : Thread nD τ).loc main_arg4))
      (m ((c.tc : Thread nD τ).loc main_arg5)) (m ((c.tc : Thread nD τ).loc main_arg6))
      : S1024x12x128.Idx → EReal) = r1 m c := by
  funext i
  obtain ⟨b, n, j, rfl⟩ : ∃ b n j, i = ix3 b n j := ⟨_, _, _, eq_ix3 i⟩
  exact Cert.ReferenceIdeal.RefValues.ability (holds m h c) _ b n j

/-- The item result. -/
theorem item :
    (Cert.ReferenceIdeal.Read.val_main_v47 (F := Ideal) (m ((c.tc : Thread nD τ).loc main_arg0))
      (m ((c.tc : Thread nD τ).loc main_arg1)) (m ((c.tc : Thread nD τ).loc main_arg2))
      (m ((c.tc : Thread nD τ).loc main_arg4)) (m ((c.tc : Thread nD τ).loc main_arg7))
      (m ((c.tc : Thread nD τ).loc main_arg8)) : S1024x12x128.Idx → EReal) = r2 m c := by
  funext i
  obtain ⟨b, n, j, rfl⟩ : ∃ b n j, i = ix3 b n j := ⟨_, _, _, eq_ix3 i⟩
  exact Cert.ReferenceIdeal.RefValues.item (holds m h c) _ b n j

/-- The move result. -/
theorem moves :
    (Cert.ReferenceIdeal.Read.val_main_v76 (F := Ideal) (m ((c.tc : Thread nD τ).loc main_arg0))
      (m ((c.tc : Thread nD τ).loc main_arg3)) (m ((c.tc : Thread nD τ).loc main_arg4))
      (m ((c.tc : Thread nD τ).loc main_arg9)) (m ((c.tc : Thread nD τ).loc main_arg10))
      : S1024x12x512.Idx → EReal) = r3 m c := by
  funext i
  obtain ⟨b, n, j, rfl⟩ : ∃ b n j, i = ix3 b n j := ⟨_, _, _, eq_ix3 i⟩
  exact Cert.ReferenceIdeal.RefValues.moves (holds m h c) _ b n j

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_unit_tables
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts
  Cert.Pre_unit_tables.Gen.facts

/-- The reference ends with its arguments unchanged and every counter at zero. -/
theorem frame_reference : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

/-- From equal arguments, under the precondition, the kernel and the reference end with the same four results. -/
theorem values : Cert.algebraic_KernelIdeal_ReferenceIdeal_pre_unit_tables := by
  intro m g m' g' hpre hargs
  refine ⟨Cert.KernelIdeal.Result.r0 m, Cert.KernelIdeal.Result.r1 m, Cert.KernelIdeal.Result.r2 m,
    Cert.KernelIdeal.Result.r3 m, ?_, ?_⟩
  · exact (θ_run Cert.KernelIdeal.defs _ _).mono
      (fun _ h c => ⟨(h.1 c).1, (h.1 c).2.1, (h.1 c).2.2.1, (h.1 c).2.2.2, h.2 c⟩)
      (θ_run_and (Cert.KernelIdeal.Result.run m g) (Cert.KernelIdeal.Gen.unchanged m g))
  · refine (θ_run Cert.ReferenceIdeal.defs _ _).mono (fun r h c => ?_) (Cert.ReferenceIdeal.Value.run (F := Ideal) m' g')
    obtain ⟨h0, h1, h2, h3, hrest⟩ := h c
    obtain ⟨a0, a1, a2, a3, a4, a5, a6, a7, a8, a9, a10⟩ := hargs c
    refine ⟨?_, ?_, ?_, ?_, hrest⟩
    · refine (h0.trans (Cert.ReferenceIdeal.Read.val_main_v15_eq (StableHlo.launchContents m' c))).trans ?_
      refine Eq.trans ?_ (Cert.Agree.species m hpre c)
      rw [← a0, ← a4]
    · refine (h1.trans (Cert.ReferenceIdeal.Read.val_main_v31_eq (StableHlo.launchContents m' c))).trans ?_
      refine Eq.trans ?_ (Cert.Agree.ability m hpre c)
      rw [← a0, ← a1, ← a4, ← a5, ← a6]
    · refine (h2.trans (Cert.ReferenceIdeal.Read.val_main_v47_eq (StableHlo.launchContents m' c))).trans ?_
      refine Eq.trans ?_ (Cert.Agree.item m hpre c)
      rw [← a0, ← a1, ← a2, ← a4, ← a7, ← a8]
    · refine (h3.trans (Cert.ReferenceIdeal.Read.val_main_v76_eq (StableHlo.launchContents m' c))).trans ?_
      refine Eq.trans ?_ (Cert.Agree.moves m hpre c)
      rw [← a0, ← a3, ← a4, ← a9, ← a10]

/-- Every claim of the certificate. -/
theorem claim : Cert.Claim := ⟨Cert.Kernel.Gen.facts, Cert.KernelIdeal.Gen.facts, Cert.ReferenceIdeal.Gen.facts, Cert.Pre_unit_tables.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  trivial,
  values⟩

end Cert.Proof

end
